-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_inputs [hPre_plain_inputs : Cert.Pre_plain_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_inputs [hPre_plain_inputs : Cert.Pre_plain_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_plain_inputs [hKernelIdeal : Cert.KernelIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_plain_inputs [hReferenceIdeal : Cert.ReferenceIdeal.Facts] [hPre_plain_inputs : Cert.Pre_plain_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "c2" .bf16 0x3D12#16 ((80338380498831 / 2251799813685248 : ℝ) : EReal)
  ∧ IdealRules.named_const.Statement Cert.KernelIdeal.κ "c1" .bf16 0x3F4C#16 ((6693141 / 8388608 : ℝ) : EReal)

def algebraic_KernelIdeal_ReferenceIdeal_pre_plain_inputs [hKernelIdeal : Cert.KernelIdeal.Facts] [hReferenceIdeal : Cert.ReferenceIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_plain_inputs : Cert.Pre_plain_inputs.Facts),
    quiescent_Kernel (hKernel := hKernel)
    ∧ quiescent_KernelIdeal (hKernelIdeal := hKernelIdeal)
    ∧ quiescent_KernelIdeal_pre_plain_inputs (hKernelIdeal := hKernelIdeal) (hPre_plain_inputs := hPre_plain_inputs)
    ∧ quiescent_ReferenceIdeal (hReferenceIdeal := hReferenceIdeal)
    ∧ quiescent_ReferenceIdeal_pre_plain_inputs (hReferenceIdeal := hReferenceIdeal) (hPre_plain_inputs := hPre_plain_inputs)
    ∧ preserves_Kernel_KernelIdeal
    ∧ algebraic_KernelIdeal_ReferenceIdeal_pre_plain_inputs (hKernelIdeal := hKernelIdeal) (hReferenceIdeal := hReferenceIdeal) (hPre_plain_inputs := hPre_plain_inputs)
-- ==== Pre_plain_inputs.lean ====
abbrev S16384x512 : Shape := ⟨2, ![16384, 512]⟩
abbrev S16384 : Shape := ⟨1, ![16384]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S_ : Shape := ⟨0, ![]⟩

class Facts : Prop where
  reducesTo_S16384_S_d0 : S16384.ReducesTo [0] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S512 : S_.BroadcastsInDim S512 (![] : Fin 0 → Fin S512.rank)
  reducesTo_S512_S_d0 : S512.ReducesTo [0] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg11 : FVec F S512x2048 .f32) (main_arg12 : FVec F S2048 .f32) (main_v30 : IVec S_ 1) (main_v33 : IVec S512 1) (main_c_11 : IVec S_ 1) : IVec S_ 1 :=
  let main_v34 : IVec S_ 1 := (fun x v => Host.reduce IntOp.andi x v reducesTo_S512_S_d0 h_S_) main_v33 main_c_11
  let main_v35 : IVec S_ 1 := andi main_v30 main_v34
  let main_v36 : FVec F S512x2048 .f32 := Host.absf main_arg11
  let main_cst_12 : FVec F S_ .f32 := constant S_ .f32 0x7F800000#32
  let main_v37 : FVec F S512x2048 .f32 := broadcastInDim S512x2048 ![] bcast_S_S512x2048 main_cst_12
  let main_v38 : IVec S512x2048 1 := cmpf .olt main_v36 main_v37
  let main_c_13 : IVec S_ 1 := constantI S_ 1 1#1
  let main_v39 : IVec S_ 1 := (fun x v => Host.reduce IntOp.andi x v reducesTo_S512x2048_S_d0_1 h_S_) main_v38 main_c_13
  let main_v40 : IVec S_ 1 := andi main_v35 main_v39
  let main_v41 : FVec F S2048 .f32 := Host.absf main_arg12
  let main_cst_14 : FVec F S_ .f32 := constant S_ .f32 0x7F800000#32
  let main_v42 : FVec F S2048 .f32 := broadcastInDim S2048 ![] bcast_S_S2048 main_cst_14
  let main_v43 : IVec S2048 1 := cmpf .olt main_v41 main_v42
  let main_c_15 : IVec S_ 1 := constantI S_ 1 1#1
  let main_v44 : IVec S_ 1 := (fun x v => Host.reduce IntOp.andi x v reducesTo_S2048_S_d0 h_S_) main_v43 main_c_15
  let main_v45 : IVec S_ 1 := andi main_v40 main_v44
  main_v45

def fn_part1 {F : FTy → Type} [FloatOps F] (main_arg8 : FVec F S512 .f32) (main_arg9 : FVec F S512 .f32) (main_arg10 : FVec F S512 .f32) (main_arg11 : FVec F S512x2048 .f32) (main_arg12 : FVec F S2048 .f32) (main_v15 : IVec S_ 1) (main_v16 : FVec F S512 .f32) (main_cst_4 : FVec F S_ .f32) : IVec S_ 1 :=
  let main_v17 : FVec F S512 .f32 := broadcastInDim S512 ![] bcast_S_S512 main_cst_4
  let main_v18 : IVec S512 1 := cmpf .olt main_v16 main_v17
  let main_c_5 : IVec S_ 1 := constantI S_ 1 1#1
  let main_v19 : IVec S_ 1 := (fun x v => Host.reduce IntOp.andi x v reducesTo_S512_S_d0 h_S_) main_v18 main_c_5
  let main_v20 : IVec S_ 1 := andi main_v15 main_v19
  let main_v21 : FVec F S512 .f32 := Host.absf main_arg8
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_c_7 : IVec S_ 1 := constantI S_ 1 1#1
  let main_v24 : IVec S_ 1 := (fun x v => Host.reduce IntOp.andi x v reducesTo_S512_S_d0 h_S_) main_v23 main_c_7
  let main_v25 : IVec S_ 1 := andi main_v20 main_v24
  let main_v26 : FVec F S512 .f32 := Host.absf main_arg9
  let main_cst_8 : FVec F S_ .f32 := constant S_ .f32 0x7F800000#32
  let main_v27 : FVec F S512 .f32 := broadcastInDim S512 ![] bcast_S_S512 main_cst_8
  let main_v28 : IVec S512 1 := cmpf .olt main_v26 main_v27
  let main_c_9 : IVec S_ 1 := constantI S_ 1 1#1
  let main_v29 : IVec S_ 1 := (fun x v => Host.reduce IntOp.andi x v reducesTo_S512_S_d0 h_S_) main_v28 main_c_9
  let main_v30 : IVec S_ 1 := andi main_v25 main_v29
  let main_v31 : FVec F S512 .f32 := Host.absf main_arg10
  let main_cst_10 : FVec F S_ .f32 := constant S_ .f32 0x7F800000#32
  let main_v32 : FVec F S512 .f32 := broadcastInDim S512 ![] bcast_S_S512 main_cst_10
  let main_v33 : IVec S512 1 := cmpf .olt main_v31 main_v32
  let main_c_11 : IVec S_ 1 := constantI S_ 1 1#1
  fn_part2 (F := F) main_arg11 main_arg12 main_v30 main_v33 main_c_11

def fn {F : FTy → Type} [FloatOps F] (main_arg0 : FVec F S16384x512 .f32) (main_arg1 : IVec S16384 32) (main_arg2 : IVec S16384 32) (main_arg3 : FVec F S512x1536 .f32) (main_arg4 : FVec F S1536 .f32) (main_arg5 : FVec F S512x512 .f32) (main_arg6 : FVec F S512 .f32) (main_arg7 : FVec F S512 .f32) (main_arg8 : FVec F S512 .f32) (main_arg9 : FVec F S512 .f32) (main_arg10 : FVec F S512 .f32) (main_arg11 : FVec F S512x2048 .f32) (main_arg12 : FVec F S2048 .f32) (main_arg13 : FVec F S2048x512 .f32) (main_arg14 : FVec F S512 .f32) : IVec S_ 1 :=
  let main_v0 : IVec S16384 32 := iotaInDim S16384 32 0
  let main_v1 : IVec S16384 1 := cmpi .eq main_arg1 main_v0
  let main_c : IVec S_ 1 := constantI S_ 1 1#1
  let main_v2 : IVec S_ 1 := (fun x v => Host.reduce IntOp.andi x v reducesTo_S16384_S_d0 h_S_) main_v1 main_c
  let main_v3 : IVec S16384 1 := cmpi .eq main_arg2 main_v0
  let main_c_0 : IVec S_ 1 := constantI S_ 1 1#1
  let main_v4 : IVec S_ 1 := (fun x v => Host.reduce IntOp.andi x v reducesTo_S16384_S_d0 h_S_) main_v3 main_c_0
  let main_v5 : IVec S_ 1 := andi main_v2 main_v4
  let main_v6 : FVec F S512x1536 .f32 := Host.absf main_arg3
  let main_cst : FVec F S_ .f32 := constant S_ .f32 0x7F800000#32
  let main_v7 : FVec F S512x1536 .f32 := broadcastInDim S512x1536 ![] bcast_S_S512x1536 main_cst
  let main_v8 : IVec S512x1536 1 := cmpf .olt main_v6 main_v7
  let main_c_1 : IVec S_ 1 := constantI S_ 1 1#1
  let main_v9 : IVec S_ 1 := (fun x v => Host.reduce IntOp.andi x v reducesTo_S512x1536_S_d0_1 h_S_) main_v8 main_c_1
  let main_v10 : IVec S_ 1 := andi main_v5 main_v9
  let main_v11 : FVec F S1536 .f32 := Host.absf main_arg4
  let main_cst_2 : FVec F S_ .f32 := constant S_ .f32 0x7F800000#32
  let main_v12 : FVec F S1536 .f32 := broadcastInDim S1536 ![] bcast_S_S1536 main_cst_2
  let main_v13 : IVec S1536 1 := cmpf .olt main_v11 main_v12
  let main_c_3 : IVec S_ 1 := constantI S_ 1 1#1
  let main_v14 : IVec S_ 1 := (fun x v => Host.reduce IntOp.andi x v reducesTo_S1536_S_d0 h_S_) main_v13 main_c_3
  let main_v15 : IVec S_ 1 := andi main_v10 main_v14
  let main_v16 : FVec F S512 .f32 := Host.absf main_arg7
  let main_cst_4 : FVec F S_ .f32 := constant S_ .f32 0x7F800000#32
  fn_part1 (F := F) main_arg8 main_arg9 main_arg10 main_arg11 main_arg12 main_v15 main_v16 main_cst_4
-- ==== Kernel.lean ====
abbrev S16384x512 : Shape := ⟨2, ![16384, 512]⟩
abbrev S16384 : Shape := ⟨1, ![16384]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S_ : Shape := ⟨0, ![]⟩
abbrev S1024 : Shape := ⟨1, ![1024]⟩
abbrev S512x1 : Shape := ⟨2, ![512, 1]⟩
abbrev S1x1536 : Shape := ⟨2, ![1, 1536]⟩
abbrev S1x512 : Shape := ⟨2, ![1, 512]⟩
abbrev S1x2048 : Shape := ⟨2, ![1, 2048]⟩
abbrev S128x64 : Shape := ⟨2, ![128, 64]⟩
abbrev S128x128 : Shape := ⟨2, ![128, 128]⟩
abbrev S4096x128 : Shape := ⟨2, ![4096, 128]⟩
abbrev S4096 : Shape := ⟨1, ![4096]⟩
abbrev S4096x1 : Shape := ⟨2, ![4096, 1]⟩
abbrev S128x1 : Shape := ⟨2, ![128, 1]⟩
abbrev S128x512 : Shape := ⟨2, ![128, 512]⟩

abbrev nBuf : Space → Nat
  | .hbm => 46
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S16384, .i32⟩
  | .hbm, ⟨3, _⟩ => ⟨S512x1536, .f32⟩
  | .hbm, ⟨4, _⟩ => ⟨S1536, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x2048, .f32⟩
  | .hbm, ⟨12, _⟩ => ⟨S2048, .f32⟩
  | .hbm, ⟨13, _⟩ => ⟨S2048x512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S1024, .f32⟩
  | .hbm, ⟨19, _⟩ => ⟨S1536, .f32⟩
  | .hbm, ⟨20, _⟩ => ⟨S512x1, .f32⟩
  | .hbm, ⟨21, _⟩ => ⟨S512x1536, .f32⟩
  | .hbm, ⟨22, _⟩ => ⟨S512x1536, .f32⟩
  | .hbm, ⟨23, _⟩ => ⟨S1x1536, .f32⟩
  | .hbm, ⟨24, _⟩ => ⟨S512x1536, .f32⟩
  | .hbm, ⟨25, _⟩ => ⟨S512x1536, .f32⟩
  | .hbm, ⟨26, _⟩ => ⟨S1536, .f32⟩
  | .hbm, ⟨27, _⟩ => ⟨S1536, .f32⟩
  | .hbm, ⟨28, _⟩ => ⟨S1536, .f32⟩
  | .hbm, ⟨29, _⟩ => ⟨S512x1, .f32⟩
  | .hbm, ⟨30, _⟩ => ⟨S512x2048, .f32⟩
  | .hbm, ⟨31, _⟩ => ⟨S512x2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S512x1536, .bf16⟩
  | .hbm, ⟨38, _⟩ => ⟨S1x1536, .f32⟩
  | .hbm, ⟨39, _⟩ => ⟨S512x512, .bf16⟩
  | .hbm, ⟨40, _⟩ => ⟨S1x512, .f32⟩
  | .hbm, ⟨41, _⟩ => ⟨S512x2048, .bf16⟩
  | .hbm, ⟨42, _⟩ => ⟨S1x2048, .f32⟩
  | .hbm, ⟨43, _⟩ => ⟨S2048x512, .bf16⟩
  | .hbm, ⟨44, _⟩ => ⟨S1x512, .f32⟩
  | .hbm, ⟨45, _⟩ => ⟨S16384x512, .f32⟩
  | .local _ .vmem, ⟨0, _⟩ => ⟨S2048x512, .f32⟩
  | .local _ .vmem, ⟨1, _⟩ => ⟨S2048x512, .f32⟩
  | .local _ .vmem, ⟨2, _⟩ => ⟨S512x1536, .bf16⟩
  | .local _ .vmem, ⟨3, _⟩ => ⟨S1x1536, .f32⟩
  | .local _ .vmem, ⟨4, _⟩ => ⟨S512x512, .bf16⟩
  | .local _ .vmem, ⟨5, _⟩ => ⟨S1x512, .f32⟩
  | .local _ .vmem, ⟨6, _⟩ => ⟨S512x2048, .bf16⟩
  | .local _ .vmem, ⟨7, _⟩ => ⟨S1x2048, .f32⟩
  | .local _ .vmem, ⟨8, _⟩ => ⟨S2048x512, .bf16⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "c1" => some ((6693141 / 8388608 : ℝ) : EReal)
  | "c2" => some ((80338380498831 / 2251799813685248 : ℝ) : EReal)
  | _ => none
-- ==== ReferenceIdeal.lean ====
abbrev S16384x512 : Shape := ⟨2, ![16384, 512]⟩
abbrev S16384 : Shape := ⟨1, ![16384]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S_ : Shape := ⟨0, ![]⟩
abbrev S16384x1 : Shape := ⟨2, ![16384, 1]⟩
abbrev S1x512 : Shape := ⟨2, ![1, 512]⟩
abbrev S16384x1536 : Shape := ⟨2, ![16384, 1536]⟩
abbrev S1x1536 : Shape := ⟨2, ![1, 1536]⟩
abbrev S1 : Shape := ⟨1, ![1]⟩
abbrev S1x1 : Shape := ⟨2, ![1, 1]⟩
abbrev S128x128x3x8x64 : Shape := ⟨5, ![128, 128, 3, 8, 64]⟩
abbrev S128x128x1x8x64 : Shape := ⟨5, ![128, 128, 1, 8, 64]⟩
abbrev S128x128x8x64 : Shape := ⟨4, ![128, 128, 8, 64]⟩
abbrev S128x8x128x64 : Shape := ⟨4, ![128, 8, 128, 64]⟩
abbrev S128x8x128x128 : Shape := ⟨4, ![128, 8, 128, 128]⟩
abbrev S128x8x128 : Shape := ⟨3, ![128, 8, 128]⟩
abbrev S128x8x128x1 : Shape := ⟨4, ![128, 8, 128, 1]⟩
abbrev S16384x2048 : Shape := ⟨2, ![16384, 2048]⟩
abbrev S1x2048 : Shape := ⟨2, ![1, 2048]⟩

abbrev nBuf : Space → Nat
  | .hbm => 215
  | .vmem => 0
  | .smem => 0
  | _ => 0

abbrev hbmTy0_0 (i : Nat) : BufTy := match i % 128 with
  | 0 => ⟨S16384x512, .f32⟩
  | 1 => ⟨S16384, .i32⟩
  | 2 => ⟨S16384, .i32⟩
  | 3 => ⟨S512x1536, .f32⟩
  | 4 => ⟨S1536, .f32⟩
  | 5 => ⟨S512x512, .f32⟩
  | 6 => ⟨S512, .f32⟩
  | 7 => ⟨S512, .f32⟩
  | 8 => ⟨S512, .f32⟩
  | 9 => ⟨S512, .f32⟩
  | 10 => ⟨S512, .f32⟩
  | 11 => ⟨S512x2048, .f32⟩
  | 12 => ⟨S2048, .f32⟩
  | 13 => ⟨S2048x512, .f32⟩
  | 14 => ⟨S512, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .i32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S16384x512, .f32⟩
  | 29 => ⟨S16384x512, .f32⟩
  | 30 => ⟨S16384x512, .f32⟩
  | 31 => ⟨S_, .f32⟩
  | 32 => ⟨S_, .f32⟩
  | 33 => ⟨S_, .f32⟩
  | 34 => ⟨S_, .f32⟩
  | 35 => ⟨S16384, .f32⟩
  | 36 => ⟨S16384x1, .f32⟩
  | 37 => ⟨S16384x1, .f32⟩
  | 38 => ⟨S16384x1, .f32⟩
  | 39 => ⟨S_, .f32⟩
  | 40 => ⟨S_, .i1⟩
  | 41 => ⟨S_, .f32⟩
  | 42 => ⟨S_, .f32⟩
  | 43 => ⟨S16384x1, .f32⟩
  | 44 => ⟨S16384x1, .f32⟩
  | 45 => ⟨S16384x512, .f32⟩
  | 46 => ⟨S16384x512, .f32⟩
  | 47 => ⟨S_, .f32⟩
  | 48 => ⟨S16384x1, .f32⟩
  | 49 => ⟨S16384x1, .f32⟩
  | 50 => ⟨S16384x1, .f32⟩
  | 51 => ⟨S16384x512, .f32⟩
  | 52 => ⟨S16384x512, .f32⟩
  | 53 => ⟨S1x512, .f32⟩
  | 54 => ⟨S16384x512, .f32⟩
  | 55 => ⟨S16384x512, .f32⟩
  | 56 => ⟨S1x512, .f32⟩
  | 57 => ⟨S16384x512, .f32⟩
  | 58 => ⟨S16384x512, .f32⟩
  | 59 => ⟨S16384x1536, .f32⟩
  | 60 => ⟨S1x1536, .f32⟩
  | 61 => ⟨S16384x1536, .f32⟩
  | 62 => ⟨S16384x1536, .f32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S1, .i32⟩
  | 72 => ⟨S_, .i32⟩
  | 73 => ⟨S16384x1, .i32⟩
  | 74 => ⟨S16384x1, .i1⟩
  | 75 => ⟨S1x1, .i32⟩
  | 76 => ⟨S16384x1, .i32⟩
  | 77 => ⟨S16384x1, .i1⟩
  | 78 => ⟨S16384x1, .i1⟩
  | 79 => ⟨S_, .i1⟩
  | 80 => ⟨S16384, .i1⟩
  | 81 => ⟨S16384x1536, .f32⟩
  | 82 => ⟨S16384x1536, .i1⟩
  | 83 => ⟨S_, .f32⟩
  | 84 => ⟨S16384x1536, .f32⟩
  | 85 => ⟨S16384x1536, .f32⟩
  | 86 => ⟨S128x128x3x8x64, .f32⟩
  | 87 => ⟨S128x128x1x8x64, .f32⟩
  | 88 => ⟨S128x128x8x64, .f32⟩
  | 89 => ⟨S128x8x128x64, .f32⟩
  | 90 => ⟨S128x128x1x8x64, .f32⟩
  | 91 => ⟨S128x128x8x64, .f32⟩
  | 92 => ⟨S128x8x128x64, .f32⟩
  | 93 => ⟨S128x128x1x8x64, .f32⟩
  | 94 => ⟨S128x128x8x64, .f32⟩
  | 95 => ⟨S128x8x128x64, .f32⟩
  | 96 => ⟨S128x8x128x128, .f32⟩
  | 97 => ⟨S_, .f32⟩
  | 98 => ⟨S128x8x128x128, .f32⟩
  | 99 => ⟨S128x8x128x128, .f32⟩
  | 100 => ⟨S_, .f32⟩
  | 101 => ⟨S128x8x128, .f32⟩
  | 102 => ⟨S_, .f32⟩
  | 103 => ⟨S128x8x128, .f32⟩
  | 104 => ⟨S128x8x128, .f32⟩
  | 105 => ⟨S128x8x128x1, .f32⟩
  | 106 => ⟨S128x8x128x128, .f32⟩
  | 107 => ⟨S128x8x128x128, .f32⟩
  | 108 => ⟨S128x8x128x128, .f32⟩
  | 109 => ⟨S_, .f32⟩
  | 110 => ⟨S128x8x128, .f32⟩
  | 111 => ⟨S128x8x128x1, .f32⟩
  | 112 => ⟨S128x8x128x128, .f32⟩
  | 113 => ⟨S128x8x128x128, .f32⟩
  | 114 => ⟨S128x8x128x64, .f32⟩
  | 115 => ⟨S128x128x8x64, .f32⟩
  | 116 => ⟨S16384x512, .f32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S1, .i32⟩
  | 126 => ⟨S_, .i32⟩
  | 127 => ⟨S16384x1, .i32⟩
  | _ => ⟨S16384x512, .f32⟩

abbrev hbmTy0_1 (i : Nat) : BufTy := match i % 128 with
  | 0 => ⟨S16384x1, .i1⟩
  | 1 => ⟨S1x1, .i32⟩
  | 2 => ⟨S16384x1, .i32⟩
  | 3 => ⟨S16384x1, .i1⟩
  | 4 => ⟨S16384x1, .i1⟩
  | 5 => ⟨S_, .i1⟩
  | 6 => ⟨S16384, .i1⟩
  | 7 => ⟨S16384x512, .f32⟩
  | 8 => ⟨S16384x512, .i1⟩
  | 9 => ⟨S_, .f32⟩
  | 10 => ⟨S16384x512, .f32⟩
  | 11 => ⟨S16384x512, .f32⟩
  | 12 => ⟨S16384x512, .f32⟩
  | 13 => ⟨S1x512, .f32⟩
  | 14 => ⟨S16384x512, .f32⟩
  | 15 => ⟨S16384x512, .f32⟩
  | 16 => ⟨S16384x512, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .i32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S16384x512, .f32⟩
  | 31 => ⟨S16384x512, .f32⟩
  | 32 => ⟨S16384x512, .f32⟩
  | 33 => ⟨S_, .f32⟩
  | 34 => ⟨S_, .f32⟩
  | 35 => ⟨S_, .f32⟩
  | 36 => ⟨S_, .f32⟩
  | 37 => ⟨S16384, .f32⟩
  | 38 => ⟨S16384x1, .f32⟩
  | 39 => ⟨S16384x1, .f32⟩
  | 40 => ⟨S16384x1, .f32⟩
  | 41 => ⟨S_, .f32⟩
  | 42 => ⟨S_, .i1⟩
  | 43 => ⟨S_, .f32⟩
  | 44 => ⟨S_, .f32⟩
  | 45 => ⟨S16384x1, .f32⟩
  | 46 => ⟨S16384x1, .f32⟩
  | 47 => ⟨S16384x512, .f32⟩
  | 48 => ⟨S16384x512, .f32⟩
  | 49 => ⟨S_, .f32⟩
  | 50 => ⟨S16384x1, .f32⟩
  | 51 => ⟨S16384x1, .f32⟩
  | 52 => ⟨S16384x1, .f32⟩
  | 53 => ⟨S16384x512, .f32⟩
  | 54 => ⟨S16384x512, .f32⟩
  | 55 => ⟨S1x512, .f32⟩
  | 56 => ⟨S16384x512, .f32⟩
  | 57 => ⟨S16384x512, .f32⟩
  | 58 => ⟨S1x512, .f32⟩
  | 59 => ⟨S16384x512, .f32⟩
  | 60 => ⟨S16384x512, .f32⟩
  | 61 => ⟨S16384x2048, .f32⟩
  | 62 => ⟨S1x2048, .f32⟩
  | 63 => ⟨S16384x2048, .f32⟩
  | 64 => ⟨S16384x2048, .f32⟩
  | 65 => ⟨S16384x2048, .f32⟩
  | 66 => ⟨S16384x2048, .f32⟩
  | 67 => ⟨S_, .f32⟩
  | 68 => ⟨S16384x2048, .f32⟩
  | 69 => ⟨S16384x2048, .f32⟩
  | 70 => ⟨S16384x2048, .f32⟩
  | 71 => ⟨S_, .f32⟩
  | 72 => ⟨S16384x2048, .f32⟩
  | 73 => ⟨S16384x2048, .f32⟩
  | 74 => ⟨S16384x2048, .f32⟩
  | 75 => ⟨S_, .f32⟩
  | 76 => ⟨S16384x2048, .f32⟩
  | 77 => ⟨S16384x2048, .f32⟩
  | 78 => ⟨S_, .f32⟩
  | 79 => ⟨S16384x2048, .f32⟩
  | 80 => ⟨S16384x2048, .f32⟩
  | 81 => ⟨S16384x2048, .f32⟩
  | 82 => ⟨S16384x512, .f32⟩
  | 83 => ⟨S1x512, .f32⟩
  | 84 => ⟨S16384x512, .f32⟩
  | 85 => ⟨S16384x512, .f32⟩
  | 86 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_2 : Ref sig .tc := ⟨.hbm, 97, rfl⟩
abbrev main_v34 : Ref sig .tc := ⟨.hbm, 98, rfl⟩
abbrev main_v35 : Ref sig .tc := ⟨.hbm, 99, rfl⟩
abbrev main_cst_3 : Ref sig .tc := ⟨.hbm, 100, rfl⟩
abbrev main_v36 : Ref sig .tc := ⟨.hbm, 101, rfl⟩
abbrev main_cst_4 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_cst_5 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_call2_c : Ref sig .tc := ⟨.hbm, 117, rfl⟩
abbrev main_call2_v0 : Ref sig .tc := ⟨.hbm, 118, rfl⟩
abbrev main_call2_v1 : Ref sig .tc := ⟨.hbm, 119, rfl⟩
abbrev main_call2_c_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_c_1 : Ref sig .tc := ⟨.hbm, 125, rfl⟩
abbrev main_call2_c_2 : Ref sig .tc := ⟨.hbm, 126, rfl⟩
abbrev main_call2_v6 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_c_3 : Ref sig .tc := ⟨.hbm, 133, rfl⟩
abbrev main_call2_v12 : Ref sig .tc := ⟨.hbm, 134, rfl⟩
abbrev main_call2_v13 : Ref sig .tc := ⟨.hbm, 135, rfl⟩
abbrev main_call2_v14 : Ref sig .tc := ⟨.hbm, 136, rfl⟩
abbrev main_call2_cst : Ref sig .tc := ⟨.hbm, 137, rfl⟩
abbrev main_call2_v15 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_cst_6 : Ref sig .tc := ⟨.hbm, 145, rfl⟩
abbrev main_v56 : Ref sig .tc := ⟨.hbm, 146, rfl⟩
abbrev main_v57 : Ref sig .tc := ⟨.hbm, 147, rfl⟩
abbrev main_cst_7 : Ref sig .tc := ⟨.hbm, 148, rfl⟩
abbrev main_v58 : Ref sig .tc := ⟨.hbm, 149, rfl⟩
abbrev main_v59 : Ref sig .tc := ⟨.hbm, 150, rfl⟩
abbrev main_c_8 : Ref sig .tc := ⟨.hbm, 151, rfl⟩
abbrev main_call3_cst : Ref sig .tc := ⟨.hbm, 152, rfl⟩
abbrev main_call3_v0 : Ref sig .tc := ⟨.hbm, 153, rfl⟩
abbrev main_call3_v1 : Ref sig .tc := ⟨.hbm, 154, rfl⟩
abbrev main_call3_cst_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_v7 : Ref sig .tc := ⟨.hbm, 161, rfl⟩
abbrev main_call3_cst_1 : Ref sig .tc := ⟨.hbm, 162, rfl⟩
abbrev main_call3_v8 : Ref sig .tc := ⟨.hbm, 163, rfl⟩
abbrev main_call3_cst_2 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_v12 : Ref sig .tc := ⟨.hbm, 168, rfl⟩
abbrev main_call3_cst_3 : Ref sig .tc := ⟨.hbm, 169, rfl⟩
abbrev main_call3_v13 : Ref sig .tc := ⟨.hbm, 170, rfl⟩
abbrev main_call3_cst_4 : Ref sig .tc := ⟨.hbm, 171, rfl⟩
abbrev main_call3_call0_v0 : Ref sig .tc := ⟨.hbm, 172, rfl⟩
abbrev main_call3_call0_v1 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_cst_9 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_v76 : Ref sig .tc := ⟨.hbm, 191, rfl⟩
abbrev main_v77 : Ref sig .tc := ⟨.hbm, 192, rfl⟩
abbrev main_v78 : Ref sig .tc := ⟨.hbm, 193, rfl⟩
abbrev main_v79 : Ref sig .tc := ⟨.hbm, 194, rfl⟩
abbrev main_cst_10 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_cst_11 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev main_cst_12 : Ref sig .tc := ⟨.hbm, 203, rfl⟩
abbrev main_v86 : Ref sig .tc := ⟨.hbm, 204, rfl⟩
abbrev main_v87 : Ref sig .tc := ⟨.hbm, 205, rfl⟩
abbrev main_cst_13 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_v92 : Ref sig .tc := ⟨.hbm, 211, rfl⟩
abbrev main_v93 : Ref sig .tc := ⟨.hbm, 212, rfl⟩
abbrev main_v94 : Ref sig .tc := ⟨.hbm, 213, rfl⟩
abbrev main_v95 : Ref sig .tc := ⟨.hbm, 214, rfl⟩

abbrev nD : Nat := 1
abbrev τ : Topo := Topo.v7x

variable {F : FTy → Type} [FloatOps F]
-- ==== Proof.Stream.lean ====
/-
  What one group of 512 rows goes through in the kernel's body, written once.

  The body handles a block of 2048 rows as four groups of 512 rows and interleaves their operations.
  Each group computes the same function of its rows and the weights; this file writes that function
  in the body's own vector operations, one definition per stage.
-/
module

public import proofs.«01_k».proof.Proof.Gen.KernelIdeal.Frame

@[expose] public section

noncomputable section

namespace Cert.Layer

open Cert.KernelIdeal Cert.KernelIdeal.Gen Idealize.ShloMosaic

variable {F : FTy → Type} [FloatOps F] [Named F]

/-- Pieces of one shape are laid end to end as so many copies of that shape are. -/
theorem concatenates_ofFn {α : Type} {N : ℕ} {s t : Shape} {a : Fin t.rank} (f : Fin N → s.Idx → α)
    (h : Shape.Concatenates (List.replicate N s) t a) :
    Shape.Concatenates ((List.ofFn fun n => (⟨s, f n⟩ : (s : Shape) × (s.Idx → α))).map (·.1)) t a := by
  rw [List.map_ofFn]
  exact (List.ofFn_const N s) ▸ h

/-- A row's mean, as a column. -/
def meanV (x : FVec F S512x512 .f32) : FVec F S512x1 .f32 :=
  divf (shapeCast S512x1 (multiReduction .add [1] S512 x 0x00000000#32 reduces_S512x512_S512 (.inl rfl) rfl)
    shapeCasts_S512_S512x1) (broadcast S512x1 (Scalar.ofBits .f32 0x44000000#32))

/-- A row less its mean. -/
def centerV (x : FVec F S512x512 .f32) : FVec F S512x512 .f32 :=
  subf x (broadcastTo S512x512 (meanV x) broadcasts_S512x1_S512x512)

/-- A row normalized: less its mean, over its standard deviation. -/
def normV (x : FVec F S512x512 .f32) : FVec F S512x512 .bf16 :=
  truncf .bf16 (mulf (centerV x) (broadcastTo S512x512
    (rsqrt (addf (meanV (mulf (centerV x) (centerV x))) (broadcast S512x1 (Scalar.ofBits .f32 0x3727C5AC#32))))
    broadcasts_S512x1_S512x512)) bitsLt_bf16_f32

/-- Queries, keys and values of normalized rows. -/
def qkvV (u : FVec F S512x512 .bf16) (w : FVec F S512x1536 .bf16) (b : FVec F S1x1536 .f32) : FVec F S512x1536 .bf16 :=
  truncf .bf16 (addf
    (matmul dot_S512x512_S512x1536_S512x1536_1_0_0_1_n_n none u
      (shapeCast S512x1536 w shapeCasts_S512x1536_S512x1536) (constant S512x1536 .f32 0x00000000#32))
    (broadcastTo S512x1536 (shapeCast S1x1536 b shapeCasts_S1x1536_S1x1536) broadcasts_S1x1536_S512x1536)) bitsLt_bf16_f32

/-- A tile of 128 rows and 64 columns lies inside the 512 rows and 1536 columns. -/
theorem tile_slices {p c : ℕ} (hp : p < 4) (hc : c < 24) : S512x1536.Slices ![128 * p, 64 * c] S128x64 := by
  refine ⟨rfl, fun a => ?_⟩
  match a with
  | ⟨0, _⟩ => show 128 * p + 128 ≤ 512; omega
  | ⟨1, _⟩ => show 64 * c + 64 ≤ 1536; omega

/-- Patch `p`'s rows of 64-column group `c`. -/
def tileV (q : FVec F S512x1536 .bf16) (p c : ℕ) (hp : p < 4) (hc : c < 24) : FVec F S128x64 .bf16 :=
  extractStridedSlice S128x64 ![128 * p, 64 * c] q (tile_slices hp hc)

/-- The attention scores of patch `n / 8` and head `n % 8`. -/
def scoreV (q : FVec F S512x1536 .bf16) (n : Fin 32) : FVec F S128x128 .f32 :=
  matmul dot_S128x64_S128x64_S128x128_1_1_0_0_n_n none
    (tileV q (n.val / 8) (n.val % 8) (by omega) (by omega)) (tileV q (n.val / 8) (8 + n.val % 8) (by omega) (by omega))
    (constant S128x128 .f32 0x00000000#32)

/-- All 32 score tiles, one under the other. -/
def scoresV (q : FVec F S512x1536 .bf16) : FVec F S4096x128 .f32 :=
  concatenate S4096x128 0 (List.ofFn fun n : Fin 32 => ⟨S128x128, scoreV q n⟩) (concatenates_ofFn _ (by decide))

/-- The reciprocal of a row's sum, as a column. -/
def recipV (e : FVec F S4096x128 .f32) : FVec F S4096x1 .f32 :=
  divf (broadcast S4096x1 (Scalar.ofBits .f32 0x3F800000#32))
    (shapeCast S4096x1 (multiReduction .add [1] S4096 e 0x00000000#32 reduces_S4096x128_S4096 (.inl rfl) rfl)
      shapeCasts_S4096_S4096x1)

theorem tile_slices_128 {n : ℕ} (hn : n < 32) : S4096x128.Slices ![128 * n, 0] S128x128 := by
  refine ⟨rfl, fun a => ?_⟩
  match a with
  | ⟨0, _⟩ => show 128 * n + 128 ≤ 4096; omega
  | ⟨1, _⟩ => show 0 + 128 ≤ 128; omega

theorem tile_slices_1 {n : ℕ} (hn : n < 32) : S4096x1.Slices ![128 * n, 0] S128x1 := by
  refine ⟨rfl, fun a => ?_⟩
  match a with
  | ⟨0, _⟩ => show 128 * n + 128 ≤ 4096; omega
  | ⟨1, _⟩ => show 0 + 1 ≤ 1; omega

/-- What patch `p` reads with head `h`: the weighted values, scaled by the reciprocal sums. -/
def headV (q : FVec F S512x1536 .bf16) (e : FVec F S4096x128 .bf16) (r : FVec F S4096x1 .f32) (p : Fin 4) (h : Fin 8) :
    FVec F S128x64 .bf16 :=
  truncf .bf16 (mulf
    (matmul dot_S128x128_S128x64_S128x64_1_0_0_1_n_n none
      (extractStridedSlice S128x128 ![128 * (8 * p.val + h.val), 0] e (tile_slices_128 (by omega)))
      (tileV q p.val (16 + h.val) (by omega) (by omega)) (constant S128x64 .f32 0x00000000#32))
    (broadcastTo S128x64 (extractStridedSlice S128x1 ![128 * (8 * p.val + h.val), 0] r (tile_slices_1 (by omega)))
      broadcasts_S128x1_S128x64)) bitsLt_bf16_f32

/-- Patch `p`'s heads side by side. -/
def patchV (q : FVec F S512x1536 .bf16) (e : FVec F S4096x128 .bf16) (r : FVec F S4096x1 .f32) (p : Fin 4) :
    FVec F S128x512 .bf16 :=
  concatenate S128x512 1 (List.ofFn fun h : Fin 8 => ⟨S128x64, headV q e r p h⟩) (concatenates_ofFn _ (by decide))

/-- The four patches one under the other. -/
def patchesV (q : FVec F S512x1536 .bf16) (e : FVec F S4096x128 .bf16) (r : FVec F S4096x1 .f32) : FVec F S512x512 .bf16 :=
  concatenate S512x512 0 (List.ofFn fun p : Fin 4 => ⟨S128x512, patchV q e r p⟩) (concatenates_ofFn _ (by decide))

/-- The attention of the scores `s`. -/
def attnV (q : FVec F S512x1536 .bf16) (s : FVec F S4096x128 .f32) : FVec F S512x512 .bf16 :=
  patchesV q (truncf .bf16 (exp s) bitsLt_bf16_f32) (recipV (exp s))

/-- The projection of the attention, its bias, and the rows it is added to. -/
def residV (x : FVec F S512x512 .f32) (a : FVec F S512x512 .bf16) (w : FVec F S512x512 .bf16) (b : FVec F S1x512 .f32) :
    FVec F S512x512 .f32 :=
  addf x (addf
    (matmul dot_S512x512_S512x512_S512x512_1_0_0_1_n_n none a
      (shapeCast S512x512 w shapeCasts_S512x512_S512x512) (constant S512x512 .f32 0x00000000#32))
    (broadcastTo S512x512 (shapeCast S1x512 b shapeCasts_S1x512_S1x512) broadcasts_S1x512_S512x512))

/-- The first layer of the two-layer network. -/
def hiddenV (u : FVec F S512x512 .bf16) (w : FVec F S512x2048 .bf16) (b : FVec F S1x2048 .f32) : FVec F S512x2048 .bf16 :=
  truncf .bf16 (addf
    (matmul dot_S512x512_S512x2048_S512x2048_1_0_0_1_n_n none u
      (shapeCast S512x2048 w shapeCasts_S512x2048_S512x2048) (constant S512x2048 .f32 0x00000000#32))
    (broadcastTo S512x2048 (shapeCast S1x2048 b shapeCasts_S1x2048_S1x2048) broadcasts_S1x2048_S512x2048)) bitsLt_bf16_f32

/-- Twice the tanh approximation of gelu. -/
def geluV (h : FVec F S512x2048 .bf16) : FVec F S512x2048 .bf16 :=
  addf h (mulf h (tanh (mulf h (addf (broadcast S512x2048 (Named.named κ "c1" 0x3F4C#16))
    (mulf (broadcast S512x2048 (Named.named κ "c2" 0x3D12#16)) (mulf h h))))))

/-- The second layer, its bias, and the rows it is added to. -/
def outV (x : FVec F S512x512 .f32) (g : FVec F S512x2048 .bf16) (w : FVec F S2048x512 .bf16) (b : FVec F S1x512 .f32) :
    FVec F S512x512 .f32 :=
  addf x (addf
    (matmul dot_S512x2048_S2048x512_S512x512_1_0_0_1_n_n none g
      (shapeCast S2048x512 w shapeCasts_S2048x512_S2048x512) (constant S512x512 .f32 0x00000000#32))
    (broadcastTo S512x512 (shapeCast S1x512 b shapeCasts_S1x512_S1x512) broadcasts_S1x512_S512x512))

/-- The rows after attention: the input rows plus the projected attention. -/
def midV (x : FVec F S512x512 .f32) (q : FVec F S512x1536 .bf16) (wp : FVec F S512x512 .bf16) (bp : FVec F S1x512 .f32) :
    FVec F S512x512 .f32 :=
  residV x (attnV q (scoresV q)) wp bp

/-- The rows after the two-layer network. -/
def mlpV (y : FVec F S512x512 .f32) (w1 : FVec F S512x2048 .bf16) (b1 : FVec F S1x2048 .f32) (w2 : FVec F S2048x512 .bf16)
    (b2 : FVec F S1x512 .f32) : FVec F S512x512 .f32 :=
  outV y (geluV (hiddenV (normV y) w1 b1)) w2 b2

/-- The whole of what a group of 512 rows `x` goes through. -/
def rowsV (x : FVec F S512x512 .f32) (w : FVec F S512x1536 .bf16) (b : FVec F S1x1536 .f32) (wp : FVec F S512x512 .bf16)
    (bp : FVec F S1x512 .f32) (w1 : FVec F S512x2048 .bf16) (b1 : FVec F S1x2048 .f32) (w2 : FVec F S2048x512 .bf16)
    (b2 : FVec F S1x512 .f32) : FVec F S512x512 .f32 :=
  mlpV (midV x (qkvV (normV x) w b) wp bp) w1 b1 w2 b2

end Cert.Layer

end
-- ==== Proof.Pieces.lean ====
/-
  What the body leaves of one block, in the terms of `Stream.lean`: the four stores, each of one
  group of 512 rows.
-/
module

public import proofs.«01_k».proof.Proof.Stream

@[expose] public section

noncomputable section

namespace Cert.Layer

open Cert.KernelIdeal Cert.KernelIdeal.Gen Idealize.ShloMosaic

variable {F : FTy → Type} [FloatOps F] [Named F]

/-- What the body leaves of a block: for each group of 512 rows, what that group goes through. -/
theorem out_eq (x0 : Vec F S2048x512 .f32) (x1 : Vec F S512x1536 .bf16) (x2 : Vec F S1x1536 .f32)
    (x3 : Vec F S512x512 .bf16) (x4 : Vec F S1x512 .f32) (x5 : Vec F S512x2048 .bf16) (x6 : Vec F S1x2048 .f32)
    (x7 : Vec F S2048x512 .bf16) (x8 : Vec F S1x512 .f32) :
    out0_9 x0 x1 x2 x3 x4 x5 x6 x7 x8 = View.canon [
      ⟨r0_3, rowsV (View.ld x0 r0_3) (View.ld x1 r0_4) (View.ld x2 r0_5) (View.ld x3 r0_6) (View.ld x4 r0_7)
        (View.ld x5 r0_8) (View.ld x6 r0_9) (View.ld x7 r0_10) (View.ld x8 r0_7)⟩,
      ⟨r0_2, rowsV (View.ld x0 r0_2) (View.ld x1 r0_4) (View.ld x2 r0_5) (View.ld x3 r0_6) (View.ld x4 r0_7)
        (View.ld x5 r0_8) (View.ld x6 r0_9) (View.ld x7 r0_10) (View.ld x8 r0_7)⟩,
      ⟨r0_1, rowsV (View.ld x0 r0_1) (View.ld x1 r0_4) (View.ld x2 r0_5) (View.ld x3 r0_6) (View.ld x4 r0_7)
        (View.ld x5 r0_8) (View.ld x6 r0_9) (View.ld x7 r0_10) (View.ld x8 r0_7)⟩,
      ⟨r0_0, rowsV (View.ld x0 r0_0) (View.ld x1 r0_4) (View.ld x2 r0_5) (View.ld x3 r0_6) (View.ld x4 r0_7)
        (View.ld x5 r0_8) (View.ld x6 r0_9) (View.ld x7 r0_10) (View.ld x8 r0_7)⟩] := rfl

end Cert.Layer

end
-- ==== Proof.Norm.lean ====
/-
  Normalizing one row of 512 extended reals.

  The kernel multiplies a centred entry by the reciprocal root of the row's variance; the reference
  divides it by the root. Both give the same real number, for every row: where the row has an infinite
  entry, its mean is infinite, every centred entry is infinite, so is the variance, and both forms
  give zero.
-/
module

public import Idealize.ShloMosaic.PureOps.Ideal
public import Idealize.ShloMosaic.Lib.IdealHost

@[expose] public section

noncomputable section

namespace Cert.Layer

open Idealize.ShloMosaic

/-- The small constant under the root. -/
def eps : ℝ := 10995116 / 1099511627776

theorem eps_pos : 0 < eps := by unfold eps; norm_num

/-- A row's mean. -/
def mean (x : ℕ → EReal) : EReal := Ideal.div (∑ k : Fin 512, x k) ((512 : ℝ) : EReal)

/-- A row's variance, its constant added. -/
def spread (x : ℕ → EReal) : EReal := mean (fun k => (x k - mean x) * (x k - mean x)) + (eps : EReal)

/-- A normalized entry as the kernel computes it. -/
def normMul (x : ℕ → EReal) (j : ℕ) : EReal := (x j - mean x) * Ideal.rsqrt (spread x)

/-- A normalized entry as the reference computes it. -/
def normDiv (x : ℕ → EReal) (j : ℕ) : EReal := Ideal.div (x j - mean x) (Ideal.sqrt (spread x))

/-- A normalized entry, a real number. -/
def norm (x : ℕ → EReal) (j : ℕ) : ℝ := (normMul x j).toReal

/-- Dividing by a positive real is multiplying by its inverse. -/
theorem div_coe (a : EReal) {r : ℝ} (hr : 0 < r) : Ideal.div a (r : EReal) = a * ((r⁻¹ : ℝ) : EReal) := by
  have h : (r : EReal) ≠ 0 := by exact_mod_cast hr.ne'
  simp [Ideal.div, h, EReal.coe_inv]

/-- The f32 pattern of 512. -/
theorem ofBits_512 : Ideal.ofBits .f32 0x44000000#32 = ((512 : ℝ) : EReal) := by
  simp [Ideal.ofBits, Ideal.ieee, -EReal.coe_mul]; norm_num

/-- The f32 pattern of the small constant. -/
theorem ofBits_eps : Ideal.ofBits .f32 0x3727C5AC#32 = (eps : EReal) := by
  unfold eps
  simp [Ideal.ofBits, Ideal.ieee, -EReal.coe_mul]; norm_num

/-- The f32 pattern of an eighth. -/
theorem ofBits_eighth : Ideal.ofBits .f32 0x3E000000#32 = ((1 / 8 : ℝ) : EReal) := by
  simp [Ideal.ofBits, Ideal.ieee, -EReal.coe_mul]; norm_num

/-- The f32 pattern of a half. -/
theorem ofBits_half : Ideal.ofBits .f32 0x3F000000#32 = ((1 / 2 : ℝ) : EReal) := by
  simp [Ideal.ofBits, Ideal.ieee, -EReal.coe_mul]; norm_num

theorem exp_coe (r : ℝ) : Ideal.exp (r : EReal) = (Real.exp r : EReal) := rfl

theorem tanh_coe (r : ℝ) : Ideal.tanh (r : EReal) = (Real.tanh r : EReal) := rfl

theorem sqrt_top : Ideal.sqrt ⊤ = ⊤ := rfl

theorem rsqrt_top : Ideal.rsqrt ⊤ = 0 := rfl

theorem sqrt_pos {r : ℝ} (hr : 0 < r) : Ideal.sqrt (r : EReal) = (Real.sqrt r : EReal) := if_neg hr.not_gt

theorem rsqrt_pos {r : ℝ} (hr : 0 < r) : Ideal.rsqrt (r : EReal) = (((Real.sqrt r)⁻¹ : ℝ) : EReal) :=
  (if_neg hr.not_gt).trans (if_neg hr.ne')

/-- A sum of reals is the real sum. -/
theorem coe_sum {ι : Type} (s : Finset ι) (f : ι → ℝ) : ∑ k ∈ s, ((f k : ℝ) : EReal) = ((∑ k ∈ s, f k : ℝ) : EReal) := by
  classical
  induction s using Finset.induction with
  | empty => simp
  | insert a s ha ih => rw [Finset.sum_insert ha, Finset.sum_insert ha, ih, EReal.coe_add]

theorem mean_coe (x : ℕ → ℝ) : mean (fun k => (x k : EReal)) = (((∑ k : Fin 512, x k) * (512 : ℝ)⁻¹ : ℝ) : EReal) := by
  unfold mean
  rw [div_coe _ (by norm_num), EReal.coe_mul, coe_sum]

theorem sum_infinite {x : ℕ → EReal} {j : ℕ} (hj : j < 512) (h : x j = ⊤ ∨ x j = ⊥) :
    ∑ k : Fin 512, x k = ⊤ ∨ ∑ k : Fin 512, x k = ⊥ := by
  rw [← Finset.add_sum_erase _ _ (Finset.mem_univ (⟨j, hj⟩ : Fin 512))]
  rcases h with h | h
  · by_cases hb : ∑ k ∈ Finset.univ.erase (⟨j, hj⟩ : Fin 512), x k = ⊥
    · right; rw [hb, EReal.add_bot]
    · left; simp only [h]; exact EReal.top_add_of_ne_bot hb
  · right; simp only [h]; exact EReal.bot_add _

theorem mean_infinite {x : ℕ → EReal} {j : ℕ} (hj : j < 512) (h : x j = ⊤ ∨ x j = ⊥) : mean x = ⊤ ∨ mean x = ⊥ := by
  unfold mean
  rw [div_coe _ (by norm_num)]
  have hp : (0 : ℝ) < 512⁻¹ := by norm_num
  rcases sum_infinite hj h with h | h
  · left; rw [h, EReal.top_mul_coe_of_pos hp]
  · right; rw [h, EReal.bot_mul_coe_of_pos hp]

theorem sub_infinite {a m : EReal} (h : m = ⊤ ∨ m = ⊥) : a - m = ⊤ ∨ a - m = ⊥ := by
  rcases h with rfl | rfl
  · right; simp [sub_eq_add_neg]
  · by_cases ha : a = ⊥
    · right; simp [ha, sub_eq_add_neg]
    · left; rw [sub_eq_add_neg, EReal.neg_bot]; exact EReal.add_top_of_ne_bot ha

theorem spread_infinite {x : ℕ → EReal} (h : mean x = ⊤ ∨ mean x = ⊥) : spread x = ⊤ := by
  have hsq : (fun k => (x k - mean x) * (x k - mean x)) = fun _ => (⊤ : EReal) := by
    funext k
    rcases sub_infinite (a := x k) h with h | h <;> rw [h] <;> rfl
  have hsum : ∑ _k : Fin 512, (⊤ : EReal) = ⊤ := by
    rw [← Finset.add_sum_erase _ _ (Finset.mem_univ (0 : Fin 512))]
    exact EReal.top_add_of_ne_bot (fun hb => by
      have : (0 : EReal) ≤ ∑ _k ∈ Finset.univ.erase (0 : Fin 512), (⊤ : EReal) := Finset.sum_nonneg fun _ _ => le_top
      rw [hb] at this; exact absurd this (by simp))
  unfold spread
  rw [hsq]
  unfold mean
  rw [hsum, div_coe _ (by norm_num), EReal.top_mul_coe_of_pos (by norm_num : (0 : ℝ) < 512⁻¹)]
  exact EReal.top_add_coe _

/-- Every row has real entries only, or an infinite mean. -/
theorem row_cases (x : ℕ → EReal) : (mean x = ⊤ ∨ mean x = ⊥) ∨ ∃ y : ℕ → ℝ, ∀ k : Fin 512, x k = y k := by
  by_cases h : ∃ k : Fin 512, x k = ⊤ ∨ x k = ⊥
  · obtain ⟨k, hk⟩ := h
    exact .inl (mean_infinite k.isLt hk)
  · right
    push Not at h
    exact ⟨fun k => (x k).toReal, fun k => (EReal.coe_toReal (h k).1 (h k).2).symm⟩

/-- The two forms of a normalized entry are one real number. -/
theorem norm_forms (x : ℕ → EReal) (j : Fin 512) : ∃ r : ℝ, normMul x j = r ∧ normDiv x j = r := by
  rcases row_cases x with h | ⟨y, hy⟩
  · refine ⟨0, ?_, ?_⟩
    · unfold normMul; rw [spread_infinite h, rsqrt_top, mul_zero]; rfl
    · unfold normDiv; rw [spread_infinite h, sqrt_top]; simp [Ideal.div]
  · have hm : mean x = mean (fun k => (y k : EReal)) := by unfold mean; simp only [hy]
    obtain ⟨m, hm'⟩ : ∃ m : ℝ, mean x = m := ⟨_, hm.trans (mean_coe y)⟩
    have hv : ∃ v : ℝ, 0 < v ∧ spread x = v := by
      refine ⟨(∑ k : Fin 512, (y k - m) * (y k - m)) * 512⁻¹ + eps, ?_, ?_⟩
      · have : 0 ≤ ∑ k : Fin 512, (y k - m) * (y k - m) := Finset.sum_nonneg fun k _ => mul_self_nonneg _
        have := eps_pos
        positivity
      · rw [EReal.coe_add, ← mean_coe (fun k => (y k - m) * (y k - m))]
        unfold spread
        rw [hm']
        unfold mean
        simp only [hy, EReal.coe_mul, EReal.coe_sub]
    obtain ⟨v, hv, hs⟩ := hv
    have hr : 0 < Real.sqrt v := Real.sqrt_pos.2 hv
    refine ⟨(y j - m) * (Real.sqrt v)⁻¹, ?_, ?_⟩
    · unfold normMul
      rw [hs, hm', hy, rsqrt_pos hv, EReal.coe_mul, EReal.coe_sub]
    · unfold normDiv
      rw [hs, hm', hy, sqrt_pos hv, div_coe _ hr, EReal.coe_mul, EReal.coe_sub]

theorem normMul_eq (x : ℕ → EReal) (j : Fin 512) : normMul x j = norm x j := by
  obtain ⟨r, h, -⟩ := norm_forms x j
  unfold norm
  rw [h, EReal.toReal_coe]

theorem normDiv_eq (x : ℕ → EReal) (j : Fin 512) : normDiv x j = norm x j := by
  obtain ⟨r, h, h'⟩ := norm_forms x j
  unfold norm
  rw [h, h', EReal.toReal_coe]

end Cert.Layer

end
-- ==== Proof.Layer.lean ====
/-
  The transformer layer in plain extended-real arithmetic, over the weights the kernel holds.

  Rows and columns are numbered by natural numbers, so that a tile, a head or a block is read by
  arithmetic on the numbers. Everything a row computes depends on that row alone, except the attention,
  which also reads the 128 rows of its patch.
-/
module

public import proofs.«01_k».proof.Proof.Norm

@[expose] public section

noncomputable section

namespace Cert.Layer

open Idealize.ShloMosaic

/-- The weights the kernel holds. What is multiplied with normalized rows is real; the rest is any extended real. -/
structure Weights where
  /-- the projection to queries, keys and values -/
  wq : ℕ → ℕ → ℝ
  bq : ℕ → ℝ
  /-- the projection of the attention -/
  wp : ℕ → ℕ → EReal
  bp : ℕ → EReal
  /-- the two layers of the network -/
  w1 : ℕ → ℕ → ℝ
  b1 : ℕ → ℝ
  w2 : ℕ → ℕ → EReal
  b2 : ℕ → EReal

/-- Queries (columns below 512), keys (the next 512) and values (the last 512) of a row. -/
def qkv (K : Weights) (X : ℕ → ℕ → EReal) (r c : ℕ) : ℝ := ∑ j : Fin 512, norm (X r) j * K.wq j c + K.bq c

/-- Row `r`'s score in head `h` with row `m` of its patch. -/
def score (q : ℕ → ℕ → ℝ) (r h m : ℕ) : ℝ :=
  ∑ d : Fin 64, q r (64 * h + d) * q (128 * (r / 128) + m) (512 + 64 * h + d)

/-- The attention of a row: the values of its patch under the exponentials of the scores, over their sum. -/
def attn (q : ℕ → ℕ → ℝ) (r c : ℕ) : ℝ :=
  (∑ m : Fin 128, Real.exp (score q r (c / 64) m) * q (128 * (r / 128) + m) (1024 + c)) *
    (∑ m : Fin 128, Real.exp (score q r (c / 64) m))⁻¹

/-- The rows after attention. -/
def mid (K : Weights) (X : ℕ → ℕ → EReal) (r c : ℕ) : EReal :=
  X r c + (∑ j : Fin 512, (attn (qkv K X) r j : EReal) * K.wp j c + K.bp c)

/-- The hidden layer of the network, before its nonlinearity. -/
def hidden (K : Weights) (Y : ℕ → ℕ → EReal) (r c : ℕ) : ℝ := ∑ j : Fin 512, norm (Y r) j * K.w1 j c + K.b1 c

/-- Twice the tanh approximation of gelu, as the kernel computes it. -/
def gelu2 (h : ℝ) : ℝ :=
  h + h * Real.tanh (h * (6693141 / 8388608 + 80338380498831 / 2251799813685248 * (h * h)))

/-- The rows after the network. -/
def mlp (K : Weights) (Y : ℕ → ℕ → EReal) (r c : ℕ) : EReal :=
  Y r c + (∑ j : Fin 2048, (gelu2 (hidden K Y r j) : EReal) * K.w2 j c + K.b2 c)

/-- The whole layer. -/
def layer (K : Weights) (X : ℕ → ℕ → EReal) : ℕ → ℕ → EReal := mlp K (mid K X)

/-- The layer of rows that start at a patch's first row is the layer of all rows, read from there. -/
theorem layer_shift (K : Weights) (X : ℕ → ℕ → EReal) (k r c : ℕ) :
    layer K (fun r => X (128 * k + r)) r c = layer K X (128 * k + r) c := by
  have hq : ∀ r c, qkv K (fun r => X (128 * k + r)) r c = qkv K X (128 * k + r) c := fun _ _ => rfl
  have hp : ∀ m, 128 * k + (128 * (r / 128) + m) = 128 * ((128 * k + r) / 128) + m := fun m => by omega
  have hm : ∀ c, mid K (fun r => X (128 * k + r)) r c = mid K X (128 * k + r) c := fun c => by
    simp only [mid, attn, score, hq, hp]
  simp only [layer, mlp, hidden, hm, show mid K (fun r => X (128 * k + r)) r = mid K X (128 * k + r) from funext hm]

end Cert.Layer

end
-- ==== Proof.Entries.lean ====
/-
  Matrices and vectors read by natural numbers.
-/
module

public import Idealize.ShloMosaic.Lib.Pointwise

@[expose] public section

noncomputable section

namespace Cert.Layer

open Idealize.ShloMosaic

/-- The matrix whose entries are `M`'s. -/
def mat {n m : ℕ} (M : ℕ → ℕ → EReal) : (⟨2, ![n, m]⟩ : Shape).Idx → EReal := fun i => M (i 0).val (i 1).val

theorem mat_ix2 {n m : ℕ} (M : ℕ → ℕ → EReal) (a : Fin n) (b : Fin m) : mat M (ix2 a b) = M a.val b.val := rfl

/-- The vector whose entries are `M`'s. -/
def vec {n : ℕ} (M : ℕ → EReal) : (⟨1, ![n]⟩ : Shape).Idx → EReal := fun i => M (i 0).val

theorem vec_ix1 {n : ℕ} (M : ℕ → EReal) (a : Fin n) : vec M (ix1 a) = M a.val := rfl

/-- A matrix's entry by natural numbers: nothing outside it. -/
def entry {n m : ℕ} (M : (⟨2, ![n, m]⟩ : Shape).Idx → EReal) (r c : ℕ) : EReal :=
  if h : r < n ∧ c < m then M (ix2 ⟨r, h.1⟩ ⟨c, h.2⟩) else 0

/-- A vector's entry by natural numbers: nothing outside it. -/
def entry1 {n : ℕ} (M : (⟨1, ![n]⟩ : Shape).Idx → EReal) (c : ℕ) : EReal := if h : c < n then M (ix1 ⟨c, h⟩) else 0

theorem entry_at {n m : ℕ} (M : (⟨2, ![n, m]⟩ : Shape).Idx → EReal) (j : (⟨2, ![n, m]⟩ : Shape).Idx) :
    entry M (j 0).val (j 1).val = M j := by
  rw [entry, dif_pos ⟨(j 0).isLt, (j 1).isLt⟩]
  refine congrArg M (funext fun a => ?_)
  match a with
  | ⟨0, _⟩ => rfl
  | ⟨1, _⟩ => rfl

theorem entry1_at {n : ℕ} (M : (⟨1, ![n]⟩ : Shape).Idx → EReal) (j : (⟨1, ![n]⟩ : Shape).Idx) :
    entry1 M (j 0).val = M j := by
  rw [entry1, dif_pos (show (j 0).val < n from (j 0).isLt)]
  refine congrArg M (funext fun a => ?_)
  match a with
  | ⟨0, _⟩ => rfl

theorem mat_entry {n m : ℕ} (M : (⟨2, ![n, m]⟩ : Shape).Idx → EReal) : M = mat (entry M) :=
  funext fun j => (entry_at M j).symm

theorem vec_entry {n : ℕ} (M : (⟨1, ![n]⟩ : Shape).Idx → EReal) : M = vec (entry1 M) :=
  funext fun j => (entry1_at M j).symm

/-- Every entry is a real. -/
def Reals {s : Shape} (M : s.Idx → EReal) : Prop := ∀ i, ∃ r : ℝ, M i = r

/-- A matrix of reals is the matrix of its real entries. -/
theorem mat_real {n m : ℕ} {M : (⟨2, ![n, m]⟩ : Shape).Idx → EReal} (h : Reals M) :
    M = mat fun r c => ((entry M r c).toReal : EReal) := by
  funext j
  obtain ⟨r, hr⟩ := h j
  rw [mat, entry_at, hr, EReal.toReal_coe]

/-- A vector of reals is the vector of its real entries. -/
theorem vec_real {n : ℕ} {M : (⟨1, ![n]⟩ : Shape).Idx → EReal} (h : Reals M) :
    M = vec fun c => ((entry1 M c).toReal : EReal) := by
  funext j
  obtain ⟨r, hr⟩ := h j
  rw [vec, entry1_at, hr, EReal.toReal_coe]

end Cert.Layer

end
-- ==== Proof.Stages.lean ====
/-
  The kernel's stages at the ideal values: each stage of `Stream.lean`, applied to matrices read by
  natural numbers, is the stage of `Layer.lean` at the same numbers.
-/
module

public import proofs.«01_k».proof.Proof.Stream
public import proofs.«01_k».proof.Proof.Layer
public import proofs.«01_k».proof.Proof.Entries
public import Idealize.ShloMosaic.Lib.Pipeline.Value

@[expose] public section

noncomputable section

namespace Cert.Layer

open Cert.KernelIdeal Cert.KernelIdeal.Gen Idealize.ShloMosaic

theorem normV_mat (X : ℕ → ℕ → EReal) :
    normV (F := Ideal) (mat X) = mat (fun r c => (norm (X r) c : EReal)) := by
  funext j
  idx_vars j
  pointwise [normV, centerV, meanV]
  rw [ofBits_512, ofBits_eps]
  exact normMul_eq (X j0) j1

theorem qkvV_mat (U W b : ℕ → ℕ → EReal) :
    qkvV (F := Ideal) (mat U) (mat W) (mat b) = mat (fun r c => ∑ j : Fin 512, U r j * W j c + b 0 c) := by
  funext j
  idx_vars j
  pointwise [qkvV]
  rfl

/-- The entry of score tile `n` in row `a`, column `m`. -/
def scoreE (Q : ℕ → ℕ → EReal) (n a m : ℕ) : EReal :=
  ∑ j : Fin 64, Q (128 * (n / 8) + a) (64 * (n % 8) + j) * Q (128 * (n / 8) + m) (64 * (8 + n % 8) + j)

theorem scoreV_mat (Q : ℕ → ℕ → EReal) (n : Fin 32) : scoreV (F := Ideal) (mat Q) n = mat (scoreE Q n) := by
  funext j
  idx_vars j
  pointwise [scoreV, tileV]
  rfl

theorem scoresV_mat (Q : ℕ → ℕ → EReal) :
    scoresV (F := Ideal) (mat Q) = mat (fun r m => scoreE Q (r / 128) (r % 128) m) := by
  funext j
  idx_vars j
  unfold scoresV
  rw [concatenate_ofFn_apply (t := S4096x128) (s₁ := S128x128) (0 : Fin 2) _ _ rfl 128 rfl _ ⟨j0.val / 128, by omega⟩ rfl
    (ix2 (⟨j0.val % 128, by omega⟩ : Fin 128) j1) rfl (by intro b hb; match b with | ⟨0, _⟩ => exact absurd rfl hb | ⟨1, _⟩ => rfl),
    scoreV_mat]
  rfl

theorem recipV_mat (E : ℕ → ℕ → EReal) :
    recipV (F := Ideal) (mat E) = mat (fun r _ => Ideal.div 1 (∑ m : Fin 128, E r m)) := by
  funext j
  idx_vars j
  pointwise [recipV]
  rfl

/-- What row `a` of patch `p` reads with head `h` in column `d`. -/
def headE (Q E R : ℕ → ℕ → EReal) (p h a d : ℕ) : EReal :=
  (∑ m : Fin 128, E (128 * (8 * p + h) + a) m * Q (128 * p + m) (64 * (16 + h) + d)) * R (128 * (8 * p + h) + a) 0

theorem headV_mat (Q E R : ℕ → ℕ → EReal) (p : Fin 4) (h : Fin 8) :
    headV (F := Ideal) (mat Q) (mat E) (mat R) p h = mat (headE Q E R p h) := by
  funext j
  idx_vars j
  pointwise [headV, tileV]
  rfl

theorem patchV_mat (Q E R : ℕ → ℕ → EReal) (p : Fin 4) :
    patchV (F := Ideal) (mat Q) (mat E) (mat R) p = mat (fun a c => headE Q E R p (c / 64) a (c % 64)) := by
  funext j
  idx_vars j
  unfold patchV
  rw [concatenate_ofFn_apply (t := S128x512) (s₁ := S128x64) (1 : Fin 2) _ _ rfl 64 rfl _ ⟨j1.val / 64, by omega⟩ rfl
    (ix2 j0 (⟨j1.val % 64, by omega⟩ : Fin 64)) rfl (by intro b hb; match b with | ⟨0, _⟩ => rfl | ⟨1, _⟩ => exact absurd rfl hb),
    headV_mat]
  rfl

theorem patchesV_mat (Q E R : ℕ → ℕ → EReal) :
    patchesV (F := Ideal) (mat Q) (mat E) (mat R) =
      mat (fun r c => headE Q E R (r / 128) (c / 64) (r % 128) (c % 64)) := by
  funext j
  idx_vars j
  unfold patchesV
  rw [concatenate_ofFn_apply (t := S512x512) (s₁ := S128x512) (0 : Fin 2) _ _ rfl 128 rfl _ ⟨j0.val / 128, by omega⟩ rfl
    (ix2 (⟨j0.val % 128, by omega⟩ : Fin 128) j1) rfl (by intro b hb; match b with | ⟨0, _⟩ => exact absurd rfl hb | ⟨1, _⟩ => rfl),
    patchV_mat]
  rfl

theorem exp_mat {n m : ℕ} (M : ℕ → ℕ → EReal) :
    exp (F := Ideal) (s := ⟨2, ![n, m]⟩) (φ := .f32) (mat M) = mat (fun r c => Ideal.exp (M r c)) := rfl

theorem truncf_mat {n m : ℕ} (M : ℕ → ℕ → EReal) (h) :
    truncf (F := Ideal) (s := ⟨2, ![n, m]⟩) (φ := .f32) .bf16 (mat M) h = mat M := rfl

theorem residV_mat (X A W b : ℕ → ℕ → EReal) :
    residV (F := Ideal) (mat X) (mat A) (mat W) (mat b) =
      mat (fun r c => X r c + (∑ j : Fin 512, A r j * W j c + b 0 c)) := by
  funext j
  idx_vars j
  pointwise [residV]
  rfl

theorem hiddenV_mat (U W b : ℕ → ℕ → EReal) :
    hiddenV (F := Ideal) (mat U) (mat W) (mat b) = mat (fun r c => ∑ j : Fin 512, U r j * W j c + b 0 c) := by
  funext j
  idx_vars j
  pointwise [hiddenV]
  rfl

theorem named_c1 : Named.named (F := Ideal) κ "c1" (φ := .bf16) 0x3F4C#16 = ((6693141 / 8388608 : ℝ) : EReal) :=
  IdealRules.named_const.ideal_named_scalar _ _ _ _ rfl

theorem named_c2 :
    Named.named (F := Ideal) κ "c2" (φ := .bf16) 0x3D12#16 = ((80338380498831 / 2251799813685248 : ℝ) : EReal) :=
  IdealRules.named_const.ideal_named_scalar _ _ _ _ rfl

theorem geluV_mat (H : ℕ → ℕ → ℝ) :
    geluV (F := Ideal) (mat fun r c => H r c) = mat (fun r c => (gelu2 (H r c) : EReal)) := by
  funext j
  idx_vars j
  pointwise [geluV]
  rw [named_c1, named_c2]
  simp only [mat_ix2, gelu2, EReal.coe_add, EReal.coe_mul, tanh_coe]
  rfl

theorem outV_mat (X G W b : ℕ → ℕ → EReal) :
    outV (F := Ideal) (mat X) (mat G) (mat W) (mat b) =
      mat (fun r c => X r c + (∑ j : Fin 2048, G r j * W j c + b 0 c)) := by
  funext j
  idx_vars j
  pointwise [outV]
  rfl

/-- The score tiles of real queries and keys are real. -/
theorem scoreE_coe (q : ℕ → ℕ → ℝ) (r h m : ℕ) (hh : h < 8) :
    scoreE (fun r c => q r c) (8 * (r / 128) + h) (r % 128) m = (score q r h m : EReal) := by
  unfold scoreE score
  rw [← coe_sum]
  refine Finset.sum_congr rfl fun d _ => ?_
  rw [EReal.coe_mul, show (8 * (r / 128) + h) / 8 = r / 128 by omega, show (8 * (r / 128) + h) % 8 = h by omega,
    show 128 * (r / 128) + r % 128 = r by omega, show 64 * (8 + h) + d.val = 512 + 64 * h + d.val by omega]

/-- The attention of a group of rows. -/
theorem attnV_mat (q : ℕ → ℕ → ℝ) :
    attnV (F := Ideal) (mat fun r c => q r c) (scoresV (mat fun r c => q r c)) = mat (fun r c => (attn q r c : EReal)) := by
  unfold attnV
  rw [scoresV_mat, exp_mat, truncf_mat, recipV_mat, patchesV_mat]
  funext j
  idx_vars j
  rw [mat_ix2, mat_ix2]
  have hh : j1.val / 64 < 8 := by omega
  unfold headE attn
  generalize hr : j0.val = r
  generalize hc : j1.val = c at *
  have e1 : (128 * (8 * (r / 128) + c / 64) + r % 128) / 128 = 8 * (r / 128) + c / 64 := by omega
  have e2 : (128 * (8 * (r / 128) + c / 64) + r % 128) % 128 = r % 128 := by omega
  have e3 : 64 * (16 + c / 64) + c % 64 = 1024 + c := by omega
  have hpos : 0 < ∑ m : Fin 128, Real.exp (score q r (c / 64) m) :=
    Finset.sum_pos (fun _ _ => Real.exp_pos _) Finset.univ_nonempty
  simp only [e1, e2, e3, scoreE_coe q _ _ _ hh, exp_coe, ← EReal.coe_mul, coe_sum]
  rw [div_coe _ hpos, one_mul, ← EReal.coe_mul]

/-- What a group of 512 rows goes through is the layer of those rows. -/
theorem rowsV_mat (K : Weights) (X : ℕ → ℕ → EReal) :
    rowsV (F := Ideal) (mat X) (mat fun r c => K.wq r c) (mat fun _ c => K.bq c) (mat K.wp) (mat fun _ c => K.bp c)
      (mat fun r c => K.w1 r c) (mat fun _ c => K.b1 c) (mat K.w2) (mat fun _ c => K.b2 c) = mat (layer K X) := by
  have hq : qkvV (F := Ideal) (mat fun r c => (norm (X r) c : EReal)) (mat fun r c => K.wq r c) (mat fun _ c => K.bq c) =
      mat (fun r c => (qkv K X r c : EReal)) := by
    rw [qkvV_mat]
    simp only [qkv, EReal.coe_add, ← coe_sum, EReal.coe_mul]
  have hm : midV (F := Ideal) (mat X) (mat fun r c => (qkv K X r c : EReal)) (mat K.wp) (mat fun _ c => K.bp c) =
      mat (mid K X) := by
    unfold midV
    rw [attnV_mat, residV_mat]
    rfl
  have hh : hiddenV (F := Ideal) (mat fun r c => (norm (mid K X r) c : EReal)) (mat fun r c => K.w1 r c)
      (mat fun _ c => K.b1 c) = mat (fun r c => (hidden K (mid K X) r c : EReal)) := by
    rw [hiddenV_mat]
    simp only [hidden, EReal.coe_add, ← coe_sum, EReal.coe_mul]
  unfold rowsV mlpV
  rw [normV_mat, hq, hm, normV_mat, hh, geluV_mat, outV_mat]
  rfl

end Cert.Layer

end
-- ==== Proof.Block.lean ====
/-
  What the body leaves of one block at the ideal values: the layer of the block's rows.
-/
module

public import proofs.«01_k».proof.Proof.Pieces
public import proofs.«01_k».proof.Proof.Stages

@[expose] public section

noncomputable section

namespace Cert.Layer

open Cert.KernelIdeal Cert.KernelIdeal.Gen Idealize.ShloMosaic

/-- Row `o + r` of a block is a whole number of patches after its row `r` where `o` is. -/
theorem rows_emb (o : ℕ) (inb : ∀ a, ![o, 0] a + S512x512.size a ≤ S2048x512.size a) (M : ℕ → ℕ → EReal)
    (x : (Rect.unit (s := S2048x512) ![o, 0] S512x512.size inb).shape.Idx) :
    (mat M : S2048x512.Idx → EReal) ((Rect.unit (s := S2048x512) ![o, 0] S512x512.size inb).emb x) =
      M (o + (x 0).val) (x 1).val := by
  show M (o + 1 * (x 0).val) (0 + 1 * (x 1).val) = _
  rw [one_mul, one_mul, zero_add]

/-- A load of 512 rows of a block. -/
theorem ld_rows (X : ℕ → ℕ → EReal) (o : ℕ) (inb : ∀ a, ![o, 0] a + S512x512.size a ≤ S2048x512.size a) :
    View.ld (Val := Elt Ideal) (e' := .f32) (mat X : S2048x512.Idx → EReal)
      (Rect.unit (s := S2048x512) ![o, 0] S512x512.size inb) = mat (fun r => X (o + r)) := by
  funext j
  exact rows_emb o inb X j

theorem ld_whole {n m : ℕ} {e : EltTy} (Y : (⟨2, ![n, m]⟩ : Shape).Idx → Elt Ideal e)
    (inb : ∀ a, ![0, 0] a + ![n, m] a ≤ ![n, m] a) :
    View.ld (S := ⟨2, ![n, m]⟩) Y (Rect.unit (s := ⟨2, ![n, m]⟩) ![0, 0] ![n, m] inb) = Y :=
  View.ld_unit_zero (S := ⟨2, ![n, m]⟩) (funext fun a => by fin_cases a <;> rfl) inb Y

/-- What is stored for a group of rows is the layer of the block, read at the group's place. -/
theorem piece_mat (K : Weights) (X : ℕ → ℕ → EReal) (k : ℕ)
    (inb : ∀ a, ![128 * k, 0] a + S512x512.size a ≤ S2048x512.size a) (x : S512x512.Idx) :
    rowsV (F := Ideal) (View.ld (Val := Elt Ideal) (e' := .f32) (mat X : S2048x512.Idx → EReal)
      (Rect.unit (s := S2048x512) ![128 * k, 0] S512x512.size inb)) (mat fun r c => K.wq r c) (mat fun _ c => K.bq c)
      (mat K.wp) (mat fun _ c => K.bp c) (mat fun r c => K.w1 r c) (mat fun _ c => K.b1 c) (mat K.w2) (mat fun _ c => K.b2 c) x =
    (mat (layer K X) : S2048x512.Idx → EReal) ((Rect.unit (s := S2048x512) ![128 * k, 0] S512x512.size inb).emb x) := by
  rw [ld_rows, rowsV_mat, rows_emb]
  exact layer_shift K X k _ _

/-- Every row of a block is in one of the four groups. -/
theorem rows_mem (o : ℕ) (inb : ∀ a, ![o, 0] a + S512x512.size a ≤ S2048x512.size a) (y : S2048x512.Idx)
    (h : o ≤ (y 0).val) (h' : (y 0).val < o + 512) : y ∈ (Rect.unit (s := S2048x512) ![o, 0] S512x512.size inb).set := by
  rw [Rect.mem_set_unit]
  intro a
  match a with
  | ⟨0, _⟩ => exact ⟨h, h'⟩
  | ⟨1, _⟩ => exact ⟨Nat.zero_le _, lt_of_lt_of_eq (y 1).isLt (Nat.zero_add _).symm⟩

/-- What the body leaves of a block is the layer of the block's rows. -/
theorem out_mat (K : Weights) (X : ℕ → ℕ → EReal) :
    out0_9 (F := Ideal) (mat X) (mat fun r c => K.wq r c) (mat fun _ c => K.bq c) (mat K.wp) (mat fun _ c => K.bp c)
      (mat fun r c => K.w1 r c) (mat fun _ c => K.b1 c) (mat K.w2) (mat fun _ c => K.b2 c) = mat (layer K X) := by
  funext y
  rw [out_eq]
  refine View.canon_apply_of_pieces (Val := Elt Ideal) (S := S2048x512) (e := .f32) (mat (layer K X)) _ ?_ y ?_
  · simp only [List.forall_mem_cons, List.not_mem_nil, false_imp_iff, implies_true, and_true, r0_4, r0_5, r0_6, r0_7, r0_8,
      r0_9, r0_10, ld_whole]
    exact ⟨piece_mat K X 12 _, piece_mat K X 8 _, piece_mat K X 4 _, piece_mat K X 0 _⟩
  · have hy : (y 0).val < 2048 := (y 0).isLt
    rcases lt_or_ge (y 0).val 512 with h0 | h0
    · exact ⟨_, .tail _ (.tail _ (.tail _ (.head _))), rows_mem 0 inb_S2048x512_S512x512_0_0 y (Nat.zero_le _) (by omega)⟩
    rcases lt_or_ge (y 0).val 1024 with h1 | h1
    · exact ⟨_, .tail _ (.tail _ (.head _)), rows_mem 512 inb_S2048x512_S512x512_512_0 y h0 (by omega)⟩
    rcases lt_or_ge (y 0).val 1536 with h2 | h2
    · exact ⟨_, .tail _ (.head _), rows_mem 1024 inb_S2048x512_S512x512_1024_0 y h1 (by omega)⟩
    · exact ⟨_, .head _, rows_mem 1536 inb_S2048x512_S512x512_1536_0 y h2 (by omega)⟩

end Cert.Layer

end
-- ==== Proof.Array.lean ====
/-
  What the result array holds after the kernel's run, from what the nine input arrays hold when the
  blocks start: the layer of the rows.
-/
module

public import proofs.«01_k».proof.Proof.Gen.KernelIdeal.Value
public import proofs.«01_k».proof.Proof.Block

@[expose] public section

noncomputable section

namespace Cert.Layer

open Cert.KernelIdeal Cert.KernelIdeal.Gen Idealize.ShloMosaic Idealize.ShloMosaic.TcCoe

variable (m : (ℓ : Loc nD τ sig) → Buf (Elt Ideal) ℓ) (c : Dev nD)

/-- Block `t` of the rows and of the result is the `t`-th from the top; a weight's block is the whole weight. -/
theorem index_facts : ∀ t : Fin cfg0.N,
    (win0_0.index t (0 : Fin 2) = t.val ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) ∧
    (win0_8.index t (0 : Fin 2) = 0 ∧ win0_8.index t (1 : Fin 2) = 0) ∧
    (win0_9.index t (0 : Fin 2) = t.val ∧ win0_9.index t (1 : Fin 2) = 0) :=
  (by decide +kernel : ∀ t : Fin grid0.N, _)

/-- The entry of a matrix read through the block whose numbers are `p` and `q`. -/
theorem mat_block {a b p q s d : ℕ} (M : ℕ → ℕ → EReal) (hp : p = s) (hq : q = 0) (z : (⟨2, ![a, b]⟩ : Shape).Idx)
    (hd : s * a = d) : M (p * a + 1 * (z 0).val) (q * b + 1 * (z 1).val) = mat (fun r => M (d + r)) z := by
  subst hp hq hd
  rw [one_mul, one_mul, zero_mul, zero_add]
  rfl

/-- The same through the first block, which is at the matrix's start. -/
theorem mat_first {a b p q : ℕ} (M : ℕ → ℕ → EReal) (h : p = 0 ∧ q = 0) (z : (⟨2, ![a, b]⟩ : Shape).Idx) :
    M (p * a + 1 * (z 0).val) (q * b + 1 * (z 1).val) = mat M z := by
  rw [h.1, h.2, zero_mul, zero_mul, zero_add, zero_add, one_mul, one_mul]
  rfl

/-- The arrays hold the weights `K` when the blocks start. -/
structure Holds (K : Weights) : Prop where
  wq : V m c main_v19 = mat (fun r c => K.wq r c)
  bq : V m c main_v20 = mat (fun _ c => K.bq c)
  wp : V m c main_v21 = mat K.wp
  bp : V m c main_v22 = mat (fun _ c => K.bp c)
  w1 : V m c main_v23 = mat (fun r c => K.w1 r c)
  b1 : V m c main_v24 = mat (fun _ c => K.b1 c)
  w2 : V m c main_v25 = mat K.w2
  b2 : V m c main_v26 = mat (fun _ c => K.b2 c)

/-- Block `t` of the result is the layer of block `t` of the rows. -/
theorem block_mat (K : Weights) (X : ℕ → ℕ → EReal) (hX : V m c main_arg0 = mat X) (hK : Holds m c K) (t : Fin cfg0.N) :
    out0_9 (iblk m c 0 t) (iblk m c 1 t) (iblk m c 2 t) (iblk m c 3 t) (iblk m c 4 t) (iblk m c 5 t) (iblk m c 6 t)
      (iblk m c 7 t) (iblk m c 8 t) = mat (layer K fun r => X (128 * (16 * t.val) + r)) := by
  obtain ⟨i0, i1, i2, i3, i4, i5, i6, i7, i8, -⟩ := index_facts t
  have e0 : iblk m c 0 t = mat (fun r => X (128 * (16 * t.val) + r)) := by
    funext z
    show V m c main_arg0 (((cfg0.win 0).blk t).view.emb z) = _
    rw [hX]
    exact mat_block X i0.1 i0.2 z (by omega)
  have e1 : iblk m c 1 t = mat (fun r c => K.wq r c) := by
    funext z
    show V m c main_v19 (((cfg0.win 1).blk t).view.emb z) = _
    rw [hK.wq]
    exact mat_first (fun r c => K.wq r c) i1 z
  have e2 : iblk m c 2 t = mat (fun _ c => K.bq c) := by
    funext z
    show V m c main_v20 (((cfg0.win 2).blk t).view.emb z) = _
    rw [hK.bq]
    exact mat_first (fun _ c => K.bq c) i2 z
  have e3 : iblk m c 3 t = mat (K.wp) := by
    funext z
    show V m c main_v21 (((cfg0.win 3).blk t).view.emb z) = _
    rw [hK.wp]
    exact mat_first (K.wp) i3 z
  have e4 : iblk m c 4 t = mat (fun _ c => K.bp c) := by
    funext z
    show V m c main_v22 (((cfg0.win 4).blk t).view.emb z) = _
    rw [hK.bp]
    exact mat_first (fun _ c => K.bp c) i4 z
  have e5 : iblk m c 5 t = mat (fun r c => K.w1 r c) := by
    funext z
    show V m c main_v23 (((cfg0.win 5).blk t).view.emb z) = _
    rw [hK.w1]
    exact mat_first (fun r c => K.w1 r c) i5 z
  have e6 : iblk m c 6 t = mat (fun _ c => K.b1 c) := by
    funext z
    show V m c main_v24 (((cfg0.win 6).blk t).view.emb z) = _
    rw [hK.b1]
    exact mat_first (fun _ c => K.b1 c) i6 z
  have e7 : iblk m c 7 t = mat (K.w2) := by
    funext z
    show V m c main_v25 (((cfg0.win 7).blk t).view.emb z) = _
    rw [hK.w2]
    exact mat_first (K.w2) i7 z
  have e8 : iblk m c 8 t = mat (fun _ c => K.b2 c) := by
    funext z
    show V m c main_v26 (((cfg0.win 8).blk t).view.emb z) = _
    rw [hK.b2]
    exact mat_first (fun _ c => K.b2 c) i8 z
  rw [e0, e1, e2, e3, e4, e5, e6, e7, e8]
  exact out_mat K _

/-- Every block is written back. -/
theorem flush_all : ∀ t : Fin cfg0.N, (cfg0.win 9).flush t = true :=
  (by decide +kernel : ∀ t : Fin grid0.N, win0_9.flush t = true)

/-- The result array after the run is the layer of the rows. -/
theorem final_mat (K : Weights) (X : ℕ → ℕ → EReal) (hX : V m c main_arg0 = mat X) (hK : Holds m c K) :
    (dats m 0 c).arrAt 9 cfg0.N = mat (layer K X) := by
  funext i
  have hi : (i 0).val < 16384 := (i 0).isLt
  let t : Fin cfg0.N := ⟨(i 0).val / 2048, by show _ < 8; omega⟩
  let y : S2048x512.Idx := ix2 (⟨(i 0).val % 2048, by omega⟩ : Fin 2048) (i 1)
  obtain ⟨-, -, -, -, -, -, -, -, -, i9⟩ := index_facts t
  have b := congrFun (Cert.KernelIdeal.Value.blocks9 m c t (flush_all t)) y
  rw [Cert.KernelIdeal.Value.flushed9, block_mat m c K X hX hK t] at b
  have he : ((cfg0.win 9).blk t).view.emb y = i := by
    funext a; apply Fin.ext
    match a with
    | ⟨0, _⟩ => show win0_9.index t (0 : Fin 2) * 2048 + 1 * ((i 0).val % 2048) = (i 0).val; rw [i9.1]; show (i 0).val / 2048 * 2048 + _ = _; omega
    | ⟨1, _⟩ => show win0_9.index t (1 : Fin 2) * 512 + 1 * (i 1).val = (i 1).val; rw [i9.2]; omega
  have b' : (dats m 0 c).arrAt 9 cfg0.N (((cfg0.win 9).blk t).view.emb y) =
      layer K (fun r => X (128 * (16 * ((i 0).val / 2048)) + r)) ((i 0).val % 2048) (i 1).val := b
  rw [he, layer_shift] at b'
  rw [b']
  show layer K X _ _ = layer K X (i 0).val (i 1).val
  congr 1
  omega

end Cert.Layer

end
-- ==== Proof.Args.lean ====
/-
  The layer's arguments, and the weights the kernel folds of them before its blocks start.
-/
module

public import proofs.«01_k».proof.Proof.Layer

@[expose] public section

noncomputable section

namespace Cert.Layer

/-- The layer's arguments. What multiplies normalized rows, or is added to them, is real; the rest is
    any extended real. -/
structure Args where
  /-- the rows -/
  x : ℕ → ℕ → EReal
  /-- the projection to queries, keys and values -/
  wqkv : ℕ → ℕ → ℝ
  bqkv : ℕ → ℝ
  /-- the projection of the attention -/
  wproj : ℕ → ℕ → EReal
  bproj : ℕ → EReal
  /-- the two normalizations' factors and offsets -/
  g1 : ℕ → ℝ
  o1 : ℕ → ℝ
  g2 : ℕ → ℝ
  o2 : ℕ → ℝ
  /-- the two layers of the network -/
  w1 : ℕ → ℕ → ℝ
  b1 : ℕ → ℝ
  w2 : ℕ → ℕ → EReal
  b2 : ℕ → EReal

/-- What scales a column of the first projection: queries by one over the root of the head's 64 columns. -/
def scale (c : ℕ) : ℝ := if c < 512 then 1 / 8 else 1

/-- The weights the kernel holds: each normalization's factors and offset folded into the projection after
    it, the queries scaled, and the network's last layer halved. -/
def fold (A : Args) : Weights where
  wq r c := A.g1 r * A.wqkv r c * scale c
  bq c := (A.bqkv c + ∑ j : Fin 512, A.o1 j * A.wqkv j c) * scale c
  wp := A.wproj
  bp := A.bproj
  w1 r c := A.g2 r * A.w1 r c
  b1 c := A.b1 c + ∑ j : Fin 512, A.o2 j * A.w1 j c
  w2 r c := ((1 / 2 : ℝ) : EReal) * A.w2 r c
  b2 := A.b2

end Cert.Layer

end
-- ==== Proof.Host.lean ====
/-
  The arrays the kernel's host operations leave for its blocks are the folded weights.
-/
module

public import proofs.«01_k».proof.Proof.Array
public import proofs.«01_k».proof.Proof.Args
public import Idealize.ShloMosaic.Lib.StableHlo.ReadAt

@[expose] public section

noncomputable section

namespace Cert.Layer

open Cert.KernelIdeal Cert.KernelIdeal.Gen Idealize.ShloMosaic Idealize.ShloMosaic.TcCoe

variable (m : (ℓ : Loc nD τ sig) → Buf (Elt Ideal) ℓ) (c : Dev nD)

/-- The argument arrays hold the arguments `A`. -/
structure Given (A : Args) : Prop where
  x : m (c, Proc.devRef .tc main_arg0) = mat A.x
  wqkv : m (c, Proc.devRef .tc main_arg3) = mat (fun r c => A.wqkv r c)
  bqkv : m (c, Proc.devRef .tc main_arg4) = vec (fun c => A.bqkv c)
  wproj : m (c, Proc.devRef .tc main_arg5) = mat A.wproj
  bproj : m (c, Proc.devRef .tc main_arg6) = vec A.bproj
  g1 : m (c, Proc.devRef .tc main_arg7) = vec (fun c => A.g1 c)
  o1 : m (c, Proc.devRef .tc main_arg8) = vec (fun c => A.o1 c)
  g2 : m (c, Proc.devRef .tc main_arg9) = vec (fun c => A.g2 c)
  o2 : m (c, Proc.devRef .tc main_arg10) = vec (fun c => A.o2 c)
  w1 : m (c, Proc.devRef .tc main_arg11) = mat (fun r c => A.w1 r c)
  b1 : m (c, Proc.devRef .tc main_arg12) = vec (fun c => A.b1 c)
  w2 : m (c, Proc.devRef .tc main_arg13) = mat A.w2
  b2 : m (c, Proc.devRef .tc main_arg14) = vec A.b2

variable {m c} {A : Args} (hA : Given m c A)
include hA

theorem wq_mat : V m c main_v19 = mat (fun r c => ((fold A).wq r c : EReal)) := by
  funext j
  idx_vars j
  rw [mat_ix2]
  unfold V fold scale
  by_cases h : j1.val < 512
  · after_reads_at
    rw [dif_pos h]
    after_reads_at
    simp only [hA.g1, hA.wqkv, mat_ix2, vec_ix1, if_pos h, ofBits_eighth, EReal.coe_mul]
  · after_reads_at
    rw [dif_neg h]
    after_reads_at
    simp only [hA.g1, hA.wqkv, mat_ix2, vec_ix1, if_neg h, mul_one, EReal.coe_mul]

theorem bq_mat : V m c main_v20 = mat (fun _ c => ((fold A).bq c : EReal)) := by
  funext j
  idx_vars j
  rw [mat_ix2]
  unfold V fold scale
  by_cases h : j1.val < 512
  · after_reads_at
    rw [dif_pos h]
    after_reads_at
    simp only [hA.bqkv, hA.o1, hA.wqkv, mat_ix2, vec_ix1, if_pos h, ofBits_eighth, EReal.coe_mul, EReal.coe_add, ← coe_sum]
  · after_reads_at
    rw [dif_neg h]
    after_reads_at
    simp only [hA.bqkv, hA.o1, hA.wqkv, mat_ix2, vec_ix1, if_neg h, mul_one, EReal.coe_mul, EReal.coe_add, ← coe_sum]

/-- The kernel's blocks start with the folded weights. -/
theorem holds_fold : Holds m c (fold A) where
  wq := wq_mat hA
  bq := bq_mat hA
  wp := by
    funext j; idx_vars j; unfold V; after_reads_at; rw [hA.wproj]; rfl
  bp := by
    funext j; idx_vars j; unfold V; after_reads_at; rw [hA.bproj]; rfl
  w1 := by
    funext j; idx_vars j; unfold V fold; after_reads_at; simp only [hA.g2, hA.w1, mat_ix2, vec_ix1, EReal.coe_mul]
  b1 := by
    funext j; idx_vars j; unfold V fold; after_reads_at
    simp only [hA.b1, hA.o2, hA.w1, mat_ix2, vec_ix1, EReal.coe_mul, EReal.coe_add, ← coe_sum]
  w2 := by
    funext j; idx_vars j; unfold V fold; after_reads_at; rw [hA.w2, ofBits_half]; rfl
  b2 := by
    funext j; idx_vars j; unfold V; after_reads_at; rw [hA.b2]; rfl

/-- The result array after the kernel's run is the layer of the rows at the folded weights. -/
theorem final_fold : (dats m 0 c).arrAt 9 cfg0.N = mat (layer (fold A) A.x) :=
  final_mat m c (fold A) A.x ((V_main_arg0 m c).trans hA.x) (holds_fold hA)

end Cert.Layer

end
-- ==== Proof.Take.lean ====
/-
  Taking rows in their own order changes nothing.

  The reference permutes its rows by the order and back by the inverse. It reads each index as a word:
  one below zero counts from the end, and one outside the array yields no number. The row numbers in
  order are neither, so both takes return what they are given.
-/
module

public import proofs.«01_k».proof.Proof.Gen.ReferenceIdeal.Run
public import Idealize.ShloMosaic.Lib.Routing.Ops
public import Idealize.ShloMosaic.Lib.ReduceAll
public import Idealize.ShloMosaic.Lib.Pointwise
public import Idealize.ShloMosaic.Lib.Tactic.CleanTypes
public import Idealize.ShloMosaic.Lib.Affine

@[expose] public section

noncomputable section

namespace Cert.Layer.Ref

open Cert.ReferenceIdeal Cert.ReferenceIdeal.Value Cert.ReferenceIdeal.Gen Idealize.ShloMosaic Idealize.ShloMosaic.TcCoe Idealize.ShloMosaic.StableHlo

/-- The row numbers, as a column of words. -/
def rowNumbers : IVec S16384x1 32 := fun i => BitVec.ofNat 32 (i 0).val

theorem toInt_row (r : Fin 16384) : (BitVec.ofNat 32 r.val).toInt = r.val := by
  have h : (BitVec.ofNat 32 r.val).toNat = r.val := by rw [BitVec.toNat_ofNat]; omega
  rw [BitVec.toInt_eq_toNat_of_lt (by omega), h]

/-- A row number is not below zero. -/
theorem row_nonneg (r : Fin 16384) : IntOp.cmpi CmpIPredicate.slt (BitVec.ofNat 32 r.val) 0#32 ≠ 1#1 := by
  rw [Ne, IntOp.cmpi_slt, toInt_row]
  exact not_lt.2 (Int.natCast_nonneg _)

/-- Every row number is inside the array. -/
theorem rows_inside :
    Host.reduce IntOp.andi
      (andi (cmpi .sge rowNumbers (broadcastInDim S16384x1 ![] bcast_S_S16384x1 (constantI S_ 32 0#32)))
        (cmpi .sle rowNumbers (broadcastInDim S16384x1 ![0, 1] bcast_S1x1_S16384x1_0_1
          (broadcastInDim S1x1 ![1] bcast_S1_S1x1_1 (constantI S1 32 16383#32)))))
      (constantI S_ 1 1#1) reducesTo_S16384x1_S16384_d1 h_S_ = fun _ => 1#1 := by
  funext j
  refine Host.reduce_andi_one _ _ _ _ _ rfl fun i => ?_
  idx_vars i
  pointwise [rowNumbers]
  have h0 : IntOp.cmpi CmpIPredicate.sge (BitVec.ofNat 32 i0.val) 0#32 = 1#1 := by
    rw [IntOp.cmpi_sge, toInt_row]
    exact Int.natCast_nonneg _
  have h1 : IntOp.cmpi CmpIPredicate.sle (BitVec.ofNat 32 i0.val) 16383#32 = 1#1 := by
    rw [IntOp.cmpi_sle, toInt_row]
    exact Int.ofNat_le.2 (Nat.le_of_lt_succ i0.isLt)
  rw [h0, h1]
  rfl

/-- The rows of the first projection, taken in order. -/
theorem take_qkv (x y : FVec Ideal S16384x1536 .f32) :
    select (broadcastInDim S16384x1536 ![0] bcast_S16384_S16384x1536_0 (fun _ : S16384.Idx => 1#1))
      (Host.gather gather_S16384x1536_S16384x1_S16384x1536_1_0_n_n_0_1_11536 x rowNumbers) y = x := by
  funext j
  idx_vars j
  exact Routing.gather_row gather_S16384x1536_S16384x1_S16384x1536_1_0_n_n_0_1_11536 rfl rfl rfl rfl rfl x rowNumbers
    j0 j1 j0 rfl (by norm_num)

/-- The rows of the attention, taken in order. -/
theorem take_attn (x y : FVec Ideal S16384x512 .f32) :
    select (broadcastInDim S16384x512 ![0] bcast_S16384_S16384x512_0 (fun _ : S16384.Idx => 1#1))
      (Host.gather gather_S16384x512_S16384x1_S16384x512_1_0_n_n_0_1_1512 x rowNumbers) y = x := by
  funext j
  idx_vars j
  exact Routing.gather_row gather_S16384x512_S16384x1_S16384x512_1_0_n_n_0_1_1512 rfl rfl rfl rfl rfl x rowNumbers
    j0 j1 j0 rfl (by norm_num)

variable (V0 : Valuation τ sig (Elt Ideal))

/-- The order's indices are the row numbers when the order is. -/
theorem order_rows (h : ∀ i : Fin 16384, V0 (Proc.devRef .tc main_arg1) (ix1 i) = BitVec.ofNat 32 i.val) :
    res_main_call1_v5 V0 = rowNumbers := by
  funext j
  idx_vars j
  unfold res_main_call1_v5
  clean_types
  pointwise
  rw [h]
  exact if_neg (row_nonneg j0)

/-- The inverse's indices are the row numbers when the inverse is. -/
theorem inverse_rows (h : ∀ i : Fin 16384, V0 (Proc.devRef .tc main_arg2) (ix1 i) = BitVec.ofNat 32 i.val) :
    res_main_call2_v5 V0 = rowNumbers := by
  funext j
  idx_vars j
  unfold res_main_call2_v5
  clean_types
  pointwise
  rw [h]
  exact if_neg (row_nonneg j0)

end Cert.Layer.Ref

end
-- ==== Proof.Softmax.lean ====
/-
  The exponentials of the reference's softmax: each row's greatest score is a real, and is subtracted
  from the row's scores.
-/
module

public import proofs.«01_k».proof.Proof.Norm
public import proofs.«01_k».proof.Proof.Gen.ReferenceIdeal.Run
public import Idealize.ShloMosaic.Lib.Pointwise

@[expose] public section

noncomputable section

namespace Cert.Layer.Ref

open Cert.ReferenceIdeal Cert.ReferenceIdeal.Gen Idealize.ShloMosaic

theorem ofBits_ninf : Ideal.ofBits .f32 0xFF800000#32 = ⊥ := by
  simp [Ideal.ofBits, Ideal.ieee]

/-- The greatest of a row's 128 scores. -/
def top (s : ℕ → ℝ) : ℝ := (Finset.univ.fold max ⊥ fun k : Fin 128 => (s k : EReal)).toReal

/-- The greatest of 128 reals is a real. -/
theorem fold_top {op : EReal → EReal → EReal} [Std.Commutative op] [Std.Associative op] (hop : op = max) (s : ℕ → ℝ) :
    (Finset.univ.fold op ⊥ fun k : Fin 128 => (s k : EReal)) = (top s : EReal) := by
  subst hop
  rw [top, EReal.coe_toReal]
  · exact (Finset.fold_max_lt _).2 ⟨bot_lt_top, fun k _ => EReal.coe_lt_top _⟩ |>.ne
  · exact ((Finset.lt_fold_max _).2 (.inr ⟨(0 : Fin 128), Finset.mem_univ _, EReal.bot_lt_coe _⟩)).ne'

/-- A reduction along the scores' last axis, by any operation that may be folded in any order. -/
theorem reduce_last {α : Type} (f : α → α → α) [Std.Commutative f] [Std.Associative f] (s : S128x8x128x128.Idx → α)
    (b : S_.Idx → α) (p : Fin 128) (h : Fin 8) (n : Fin 128) :
    Host.reduce f s b reducesTo_S128x8x128x128_S128x8x128_d3 h_S_ (ix3 p h n) =
      Finset.univ.fold f (b (Shape.Idx.first h_S_)) (fun x : Fin 128 => s (ix4 p h n x)) := by
  rw [Host.reduce_eq_fold]
  exact Shape.ReducesTo.fold_fiber_r4_a3 reducesTo_S128x8x128x128_S128x8x128_d3 (ix3 p h n) f (b (Shape.Idx.first h_S_)) s

/-- Each row's greatest score. -/
def greatestV (s : FVec Ideal S128x8x128x128 .f32) : FVec Ideal S128x8x128 .f32 :=
  Host.reduce FloatOps.maximumf s (constant S_ .f32 0xFF800000#32) reducesTo_S128x8x128x128_S128x8x128_d3 h_S_

theorem greatestV_eq (s : FVec Ideal S128x8x128x128 .f32) (p : Fin 128) (h : Fin 8) (n : Fin 128) (f : ℕ → ℝ)
    (hf : ∀ k : Fin 128, s (ix4 p h n k) = (f k : EReal)) : greatestV s (ix3 p h n) = (top f : EReal) := by
  have e : (constant S_ .f32 0xFF800000#32 : FVec Ideal S_ .f32) (Shape.Idx.first h_S_) = (⊥ : EReal) := ofBits_ninf
  rw [greatestV, reduce_last, e]
  simp only [hf]
  exact fold_top rfl f

/-- One number per row, never below the least extended real. -/
def atLeastV (g : FVec Ideal S128x8x128 .f32) : FVec Ideal S128x8x128 .f32 :=
  maximumf (broadcastInDim S128x8x128 ![] bcast_S_S128x8x128 (constant S_ .f32 0xFF800000#32)) g

/-- One number per row, repeated along the row. -/
def alongV (g : FVec Ideal S128x8x128 .f32) : FVec Ideal S128x8x128x128 .f32 :=
  broadcastInDim S128x8x128x128 ![0, 1, 2, 3] bcast_S128x8x128x1_S128x8x128x128_0_1_2_3
    (broadcastInDim S128x8x128x1 ![0, 1, 2] bcast_S128x8x128_S128x8x128x1_0_1_2 g)

theorem atLeastV_eq (g : FVec Ideal S128x8x128 .f32) (p : Fin 128) (h : Fin 8) (n : Fin 128) :
    atLeastV g (ix3 p h n) = g (ix3 p h n) := by
  pointwise [atLeastV]
  rw [ofBits_ninf, max_eq_right bot_le]

theorem alongV_eq (g : FVec Ideal S128x8x128 .f32) (p : Fin 128) (h : Fin 8) (n k : Fin 128) :
    alongV g (ix4 p h n k) = g (ix3 p h n) := by
  pointwise [alongV]

/-- The exponentials of the scores, each row's greatest subtracted. -/
theorem exp_scores (s : FVec Ideal S128x8x128x128 .f32) (p : Fin 128) (h : Fin 8) (n k : Fin 128) (f : ℕ → ℝ)
    (hf : ∀ k : Fin 128, s (ix4 p h n k) = (f k : EReal)) :
    Host.exp (subf s (alongV (atLeastV (greatestV s)))) (ix4 p h n k) = (Real.exp (f k - top f) : EReal) := by
  show Ideal.exp (s (ix4 p h n k) - alongV (atLeastV (greatestV s)) (ix4 p h n k)) = _
  rw [alongV_eq, atLeastV_eq, greatestV_eq s p h n f hf, hf, ← EReal.coe_sub, exp_coe]

end Cert.Layer.Ref

end
-- ==== Proof.Reference.lean ====
/-
  The transformer layer as the reference writes it, in plain extended-real arithmetic over the arguments,
  and the equation: it is the layer the kernel computes of the folded weights.

  The reference scales the scores where the kernel scales the queries' weights, subtracts each row's
  greatest score before the exponential where the kernel subtracts nothing, applies each normalization's
  factors and offset where the kernel has folded them into the next projection, and halves the gelu where
  the kernel has halved the weights after it.
-/
module

public import proofs.«01_k».proof.Proof.Args

@[expose] public section

noncomputable section

namespace Cert.Layer.Ref

open Cert.Layer

/-- Queries, keys and values of a row. -/
def qkv (A : Args) (r c : ℕ) : ℝ :=
  ∑ j : Fin 512, (norm (A.x r) j * A.g1 j + A.o1 j) * A.wqkv j c + A.bqkv c

/-- A row's score in a head with row `m` of its patch. -/
def score (q : ℕ → ℕ → ℝ) (r h m : ℕ) : ℝ :=
  (∑ d : Fin 64, q r (64 * h + d) * q (128 * (r / 128) + m) (512 + 64 * h + d)) * (1 / 8)

/-- The attention of a row, with `t r h` subtracted from the scores of row `r` in head `h`. -/
def attn (q : ℕ → ℕ → ℝ) (t : ℕ → ℕ → ℝ) (r c : ℕ) : ℝ :=
  ∑ m : Fin 128, Real.exp (score q r (c / 64) m - t r (c / 64)) *
    (∑ k : Fin 128, Real.exp (score q r (c / 64) k - t r (c / 64)))⁻¹ * q (128 * (r / 128) + m) (1024 + c)

/-- The rows after attention. -/
def mid (A : Args) (t : ℕ → ℕ → ℝ) (r c : ℕ) : EReal :=
  A.x r c + (∑ j : Fin 512, (attn (qkv A) t r j : EReal) * A.wproj j c + A.bproj c)

/-- The hidden layer of the network, before its nonlinearity. -/
def hidden (A : Args) (Y : ℕ → ℕ → EReal) (r c : ℕ) : ℝ :=
  ∑ j : Fin 512, (norm (Y r) j * A.g2 j + A.o2 j) * A.w1 j c + A.b1 c

/-- The tanh approximation of gelu. -/
def gelu (h : ℝ) : ℝ :=
  h * (1 / 2 * (1 + Real.tanh (6693141 / 8388608 * (h + 12003091 / 268435456 * (h * h * h)))))

/-- The rows after the network. -/
def mlp (A : Args) (Y : ℕ → ℕ → EReal) (r c : ℕ) : EReal :=
  Y r c + (∑ j : Fin 2048, (gelu (hidden A Y r j) : EReal) * A.w2 j c + A.b2 c)

/-- A normalization's factors and offset fold into the projection after it. -/
theorem sum_fold {n : ℕ} (u g o w : ℕ → ℝ) (b s : ℝ) :
    ∑ j : Fin n, u j * (g j * w j * s) + (b + ∑ j : Fin n, o j * w j) * s =
      (∑ j : Fin n, (u j * g j + o j) * w j + b) * s := by
  simp only [add_mul, Finset.sum_add_distrib, Finset.sum_mul, mul_assoc]
  ring

theorem qkv_fold (A : Args) (r c : ℕ) : Layer.qkv (fold A) A.x r c = qkv A r c * scale c :=
  sum_fold (norm (A.x r)) A.g1 A.o1 (fun j => A.wqkv j c) (A.bqkv c) (scale c)

theorem hidden_fold (A : Args) (Y : ℕ → ℕ → EReal) (r c : ℕ) : Layer.hidden (fold A) Y r c = hidden A Y r c := by
  have h := sum_fold (n := 512) (norm (Y r)) A.g2 A.o2 (fun j => A.w1 j c) (A.b1 c) 1
  simp only [mul_one] at h
  exact h

/-- Scaling the queries scales the scores. -/
theorem score_fold (A : Args) {h : ℕ} (hh : h < 8) (r m : ℕ) :
    Layer.score (Layer.qkv (fold A) A.x) r h m = score (qkv A) r h m := by
  simp only [Layer.score, score, qkv_fold, Finset.sum_mul]
  refine Finset.sum_congr rfl fun d _ => ?_
  rw [scale, if_pos (by omega), scale, if_neg (by omega)]
  ring

/-- What is subtracted from all scores of a row cancels in its weights. -/
theorem softmax_shift {n : ℕ} (s v : Fin n → ℝ) (t : ℝ) :
    ∑ m, Real.exp (s m - t) * (∑ k, Real.exp (s k - t))⁻¹ * v m =
      (∑ m, Real.exp (s m) * v m) * (∑ k, Real.exp (s k))⁻¹ := by
  have ht : Real.exp (-t) ≠ 0 := Real.exp_ne_zero _
  simp only [sub_eq_add_neg, Real.exp_add, ← Finset.sum_mul, mul_inv]
  rw [Finset.sum_mul]
  refine Finset.sum_congr rfl fun m _ => ?_
  field_simp

theorem attn_fold (A : Args) (t : ℕ → ℕ → ℝ) (r : ℕ) {c : ℕ} (hc : c < 512) :
    Layer.attn (Layer.qkv (fold A) A.x) r c = attn (qkv A) t r c := by
  have hv : ∀ m, Layer.qkv (fold A) A.x m (1024 + c) = qkv A m (1024 + c) := fun m => by
    rw [qkv_fold, scale, if_neg (by omega), mul_one]
  simp only [Layer.attn, attn, score_fold A (show c / 64 < 8 by omega), hv]
  exact (softmax_shift (fun m : Fin 128 => score (qkv A) r (c / 64) m) (fun m => qkv A (128 * (r / 128) + m) (1024 + c))
    (t r (c / 64))).symm

theorem mid_fold (A : Args) (t : ℕ → ℕ → ℝ) : Layer.mid (fold A) A.x = mid A t := by
  funext r c
  simp only [Layer.mid, mid, attn_fold A t r (Fin.isLt _)]
  rfl

/-- The kernel's value before the last weights is twice the gelu. -/
theorem gelu_half (h : ℝ) : gelu2 h * (1 / 2) = gelu h := by
  have e : h * (6693141 / 8388608 + 80338380498831 / 2251799813685248 * (h * h)) =
      6693141 / 8388608 * (h + 12003091 / 268435456 * (h * h * h)) := by ring
  rw [gelu2, gelu, e]
  ring

theorem mlp_fold (A : Args) (Y : ℕ → ℕ → EReal) : Layer.mlp (fold A) Y = mlp A Y := by
  funext r c
  have hj : ∀ j, (gelu2 (Layer.hidden (fold A) Y r j) : EReal) * (fold A).w2 j c =
      (gelu (hidden A Y r j) : EReal) * A.w2 j c := fun j => by
    rw [hidden_fold, ← gelu_half, EReal.coe_mul, mul_assoc]
    rfl
  simp only [Layer.mlp, mlp, hj]
  rfl

/-- The reference's layer is the kernel's, of the folded weights. -/
theorem layer_fold (A : Args) (t : ℕ → ℕ → ℝ) : mlp A (mid A t) = layer (fold A) A.x := by
  rw [layer, mlp_fold, mid_fold A t]

end Cert.Layer.Ref

end
-- ==== Proof.RefValue.lean ====
/-
  The reference's program at the ideal values, stage by stage: each array it names holds the values of
  `Reference.lean` at the same rows and columns.
-/
module

public import proofs.«01_k».proof.Proof.Take
public import proofs.«01_k».proof.Proof.Softmax
public import proofs.«01_k».proof.Proof.Reference
public import proofs.«01_k».proof.Proof.Entries

@[expose] public section

noncomputable section

namespace Cert.Layer.Ref

open Cert.ReferenceIdeal Cert.ReferenceIdeal.Value Cert.ReferenceIdeal.Gen Idealize.ShloMosaic Idealize.ShloMosaic.TcCoe Idealize.ShloMosaic.StableHlo

variable (V0 : Valuation τ sig (Elt Ideal))

/-- The argument arrays hold the arguments `A`, and the order and its inverse are the rows' own order. -/
structure Given (A : Args) : Prop where
  order : ∀ i : Fin 16384, V0 (Proc.devRef .tc main_arg1) (ix1 i) = BitVec.ofNat 32 i.val
  inverse : ∀ i : Fin 16384, V0 (Proc.devRef .tc main_arg2) (ix1 i) = BitVec.ofNat 32 i.val
  x : V0 (Proc.devRef .tc main_arg0) = mat A.x
  wqkv : V0 (Proc.devRef .tc main_arg3) = mat (fun r c => A.wqkv r c)
  bqkv : V0 (Proc.devRef .tc main_arg4) = vec (fun c => A.bqkv c)
  wproj : V0 (Proc.devRef .tc main_arg5) = mat A.wproj
  bproj : V0 (Proc.devRef .tc main_arg6) = vec A.bproj
  g1 : V0 (Proc.devRef .tc main_arg7) = vec (fun c => A.g1 c)
  o1 : V0 (Proc.devRef .tc main_arg8) = vec (fun c => A.o1 c)
  g2 : V0 (Proc.devRef .tc main_arg9) = vec (fun c => A.g2 c)
  o2 : V0 (Proc.devRef .tc main_arg10) = vec (fun c => A.o2 c)
  w1 : V0 (Proc.devRef .tc main_arg11) = mat (fun r c => A.w1 r c)
  b1 : V0 (Proc.devRef .tc main_arg12) = vec (fun c => A.b1 c)
  w2 : V0 (Proc.devRef .tc main_arg13) = mat A.w2
  b2 : V0 (Proc.devRef .tc main_arg14) = vec A.b2

/-- The number of columns, as the reference counts a variance's terms: 512 less no correction. -/
theorem count_eq : ((512 : ℝ) : EReal) - FloatOps.sitofp (F := Ideal) .f32 0#32 = ((512 : ℝ) : EReal) := by
  have h : FloatOps.sitofp (F := Ideal) .f32 0#32 = ((0 : ℝ) : EReal) := by
    show (((0#32 : BitVec 32).toInt : ℝ) : EReal) = _
    simp
  rw [h, ← EReal.coe_sub, sub_zero]

theorem count_pos : (0 : EReal) < ((512 : ℝ) : EReal) := EReal.coe_pos.2 (by norm_num)

/-- A row's entry, normalized as the reference does. -/
theorem normalized (x : ℕ → EReal) (j : Fin 512) :
    Ideal.div (x j - Ideal.div (∑ k : Fin 512, x k) ((512 : ℝ) : EReal))
      (Ideal.sqrt (Ideal.div (∑ k : Fin 512, (x k - Ideal.div (∑ k : Fin 512, x k) ((512 : ℝ) : EReal)) *
        (x k - Ideal.div (∑ k : Fin 512, x k) ((512 : ℝ) : EReal))) ((512 : ℝ) : EReal) + (eps : EReal))) = norm x j :=
  normDiv_eq x j

theorem ofBits_c1 : Ideal.ofBits .f32 0x3F4C422A#32 = ((6693141 / 8388608 : ℝ) : EReal) := by
  simp [Ideal.ofBits, Ideal.ieee, -EReal.coe_mul]; norm_num

theorem ofBits_c3 : Ideal.ofBits .f32 0x3D372713#32 = ((12003091 / 268435456 : ℝ) : EReal) := by
  simp [Ideal.ofBits, Ideal.ieee, -EReal.coe_mul]; norm_num

variable {V0} {A : Args} (hA : Given V0 A)
include hA

/-- Queries, keys and values: row `n` of patch `p`, third `t`, head `h`, column `d`. -/
theorem v23_eq (p n : Fin 128) (t : Fin 3) (h : Fin 8) (d : Fin 64) :
    res_main_v23 V0 (ix5 p n t h d) = (qkv A (128 * p + n) (512 * t + 64 * h + d) : EReal) := by
  unfold res_main_v23
  rw [order_rows V0 hA.order, rows_inside, take_qkv]
  clean_types
  pointwise [res_main_call0_v8, res_main_call0_v5]
  simp only [hA.x, hA.g1, hA.o1, hA.wqkv, hA.bqkv, mat_ix2, vec_ix1, ofBits_512, ofBits_eps, count_eq, if_pos count_pos,
    normalized (A.x _), ← EReal.coe_mul, ← EReal.coe_add, coe_sum]
  rw [mul_comm p.val, mul_comm t.val, mul_comm h.val]
  rfl

/-- The scores. -/
theorem v35_eq (p : Fin 128) (h : Fin 8) (n k : Fin 128) :
    res_main_v35 V0 (ix4 p h n k) = (score (qkv A) (128 * p + n) h k : EReal) := by
  have hp : (128 * p.val + n.val) / 128 = p.val := by omega
  unfold res_main_v35
  clean_types
  pointwise
  simp only [v23_eq hA, ofBits_eighth, ← EReal.coe_mul, coe_sum]
  rw [score, hp]
  simp only [Fin.val_zero, Fin.val_one, mul_zero, zero_add, mul_one]

/-- The exponentials of the scores. -/
theorem v42_eq (p : Fin 128) (h : Fin 8) (n k : Fin 128) :
    res_main_v42 V0 (ix4 p h n k) =
      (Real.exp (score (qkv A) (128 * p + n) h k - top (score (qkv A) (128 * p + n) h)) : EReal) :=
  exp_scores (res_main_v35 V0) p h n k (score (qkv A) (128 * p + n) h) fun k => v35_eq hA p h n k

/-- The rows after attention. -/
theorem v55_eq : res_main_v55 V0 = mat (mid A fun r h => top (score (qkv A) r h)) := by
  funext j
  idx_vars j
  have hj : 128 * (j0.val / 128) + j0.val % 128 = j0.val := by omega
  unfold res_main_v55
  rw [inverse_rows V0 hA.inverse, rows_inside, take_attn]
  clean_types
  pointwise
  simp only [v42_eq hA, v23_eq hA, hj, hA.x, hA.wproj, hA.bproj, mat_ix2, vec_ix1, coe_sum]
  rw [mid]
  refine congrArg _ (congrArg (· + _) (Finset.sum_congr rfl fun x _ => congrArg (· * _) ?_))
  have hx : ∀ y : ℕ, 512 * ((2 : Fin 3) : ℕ) + 64 * (y / 64) + y % 64 = 1024 + y := fun y => by
    show 512 * 2 + _ + _ = _
    omega
  have hpos : ∀ f : Fin 128 → ℝ, 0 < ∑ k, Real.exp (f k) := fun f =>
    Finset.sum_pos (fun k _ => Real.exp_pos _) ⟨0, Finset.mem_univ _⟩
  simp only [hx, div_coe _ (hpos _), ← EReal.coe_mul, coe_sum]
  rfl

/-- The hidden layer. -/
theorem v77_eq : res_main_v77 V0 = mat (fun r c => (hidden A (mid A fun r h => top (score (qkv A) r h)) r c : EReal)) := by
  funext j
  idx_vars j
  unfold res_main_v77
  clean_types
  pointwise [res_main_call3_v8, res_main_call3_v5]
  simp only [v55_eq hA, hA.g2, hA.o2, hA.w1, hA.b1, mat_ix2, vec_ix1, ofBits_512, ofBits_eps, count_eq, if_pos count_pos,
    normalized (mid A _ _), ← EReal.coe_mul, ← EReal.coe_add, coe_sum]
  rfl

/-- The tanh approximation of gelu, in the reference's operations. -/
def geluV (h : FVec Ideal S16384x2048 .f32) : FVec Ideal S16384x2048 .f32 :=
  mulf h (mulf (broadcastInDim S16384x2048 ![] bcast_S_S16384x2048 (constant S_ .f32 0x3F000000#32))
    (addf (broadcastInDim S16384x2048 ![] bcast_S_S16384x2048 (constant S_ .f32 0x3F800000#32))
      (Host.tanh (mulf (broadcastInDim S16384x2048 ![] bcast_S_S16384x2048 (constant S_ .f32 0x3F4C422A#32))
        (addf h (mulf (broadcastInDim S16384x2048 ![] bcast_S_S16384x2048 (constant S_ .f32 0x3D372713#32))
          (mulf (mulf h h) h)))))))

/-- What the reference returns. -/
def resultV (V0 : Valuation τ sig (Elt Ideal)) : FVec Ideal S16384x512 .f32 :=
  addf (res_main_v55 V0) (addf
    (Host.dotGeneral dot_S16384x2048_S2048x512_S16384x512_1_0_0_1_n_n none (φ₂ := .f32) (geluV (res_main_v77 V0))
      (V0 (Proc.devRef .tc main_arg13)))
    (broadcastInDim S16384x512 ![0, 1] bcast_S1x512_S16384x512_0_1
      (broadcastInDim S1x512 ![1] bcast_S512_S1x512_1 (V0 (Proc.devRef .tc main_arg14)))))

theorem resultV_eq : resultV V0 = mat (mlp A (mid A fun r h => top (score (qkv A) r h))) := by
  funext j
  idx_vars j
  unfold resultV
  clean_types
  pointwise [geluV]
  simp only [v55_eq hA, v77_eq hA, hA.w2, hA.b2, mat_ix2, vec_ix1, ofBits_half, ofBits_c1, ofBits_c3, Ideal.ofBits_one_f32]
  have h1 : (1 : EReal) = ((1 : ℝ) : EReal) := rfl
  simp only [h1, ← EReal.coe_mul, ← EReal.coe_add, tanh_coe]
  rfl

end Cert.Layer.Ref

end
-- ==== Proof.Plain.lean ====
/-
  What the precondition says: the order and its inverse list the rows in order, and the arguments that
  meet normalized rows have real entries.
-/
module

public import proofs.«01_k».proof.Defs
public import proofs.«01_k».proof.Proof.Gen.Pre_plain_inputs
public import Idealize.ShloMosaic.Lib.ReduceAll
public import proofs.«01_k».proof.Proof.Entries
public import Idealize.ShloMosaic.Lib.WordCmp

@[expose] public section

noncomputable section

namespace Cert.Layer

open Cert.Pre_plain_inputs Cert.Pre_plain_inputs.Gen Idealize.ShloMosaic

/-- The entries are the numbers of their places. -/
def InOrder (a : IVec S16384 32) : Prop := ∀ i : Fin 16384, a (ix1 i) = BitVec.ofNat 32 i.val

/-- One conjunction of the precondition's. -/
theorem both {a b : IVec S_ 1} (h : andi a b = fun _ => 1#1) : (a = fun _ => 1#1) ∧ (b = fun _ => 1#1) := by
  have key : ∀ x y : BitVec 1, x &&& y = 1#1 → x = 1#1 ∧ y = 1#1 := by decide
  exact ⟨funext fun i => (key _ _ (congrFun h i)).1, funext fun i => (key _ _ (congrFun h i)).2⟩

theorem ofBits_inf : Ideal.ofBits .f32 0x7F800000#32 = ⊤ := by
  simp [Ideal.ofBits, Ideal.ieee]

/-- A number whose absolute value is below infinity is real. -/
theorem real_of_abs_lt {x : EReal} (h : Ideal.cmp .olt (max x (-x)) ⊤ = 1#1) : ∃ r : ℝ, x = r := by
  induction x using EReal.rec with
  | bot => exact absurd h (by simp [Ideal.cmp])
  | coe r => exact ⟨r, rfl⟩
  | top => exact absurd h (by simp [Ideal.cmp])

/-- All absolute values below infinity, as the precondition writes it. -/
theorem reals_of_all {s : Shape} {axes : List (Fin s.rank)} (a : FVec Ideal s .f32) (hb : S_.BroadcastsInDim s ![])
    (hr : s.ReducesTo axes S_)
    (h : Host.reduce IntOp.andi (cmpf .olt (Host.absf a) (broadcastInDim s ![] hb (constant S_ .f32 0x7F800000#32)))
      (constantI S_ 1 1#1) hr h_S_ = fun _ => 1#1) : Reals a := by
  intro i
  have hi : Ideal.cmp .olt (max (a i) (-(a i))) (Ideal.ofBits .f32 0x7F800000#32) = 1#1 :=
    Host.reduce_andi_all _ _ _ _ ix0 (congrFun h ix0) i
  rw [ofBits_inf] at hi
  exact real_of_abs_lt hi

/-- All entries the numbers of their places, as the precondition writes it. -/
theorem inOrder_of_all (a : IVec S16384 32)
    (h : Host.reduce IntOp.andi (cmpi .eq a (iotaInDim S16384 32 0)) (constantI S_ 1 1#1) reducesTo_S16384_S_d0 h_S_ =
      fun _ => 1#1) : InOrder a := by
  intro i
  have hi := Host.reduce_andi_all _ _ _ _ ix0 (congrFun h ix0) (ix1 i)
  exact (IntOp.cmpi_eq.1 hi).trans rfl

/-- What the precondition says of the arguments. -/
theorem plain {a0 : FVec Ideal S16384x512 .f32} {a1 a2 : IVec S16384 32} {a3 : FVec Ideal S512x1536 .f32}
    {a4 : FVec Ideal S1536 .f32} {a5 : FVec Ideal S512x512 .f32} {a6 a7 a8 a9 a10 : FVec Ideal S512 .f32}
    {a11 : FVec Ideal S512x2048 .f32} {a12 : FVec Ideal S2048 .f32} {a13 : FVec Ideal S2048x512 .f32}
    {a14 : FVec Ideal S512 .f32} (h : fn a0 a1 a2 a3 a4 a5 a6 a7 a8 a9 a10 a11 a12 a13 a14 = fun _ => 1#1) :
    InOrder a1 ∧ InOrder a2 ∧ Reals a3 ∧ Reals a4 ∧ Reals a7 ∧ Reals a8 ∧ Reals a9 ∧ Reals a10 ∧ Reals a11 ∧ Reals a12 := by
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h4⟩ := both h
  obtain ⟨h, h3⟩ := both h
  obtain ⟨h1, h2⟩ := both h
  exact ⟨inOrder_of_all a1 h1, inOrder_of_all a2 h2, reals_of_all a3 _ _ h3, reals_of_all a4 _ _ h4, reals_of_all a7 _ _ h7,
    reals_of_all a8 _ _ h8, reals_of_all a9 _ _ h9, reals_of_all a10 _ _ h10, reals_of_all a11 _ _ h11,
    reals_of_all a12 _ _ h12⟩

end Cert.Layer

end
-- ==== Proof.Algebraic.lean ====
/-
  The kernel's array and the reference's are equal at the ideal values, under the precondition.

  The arguments are read off the kernel's memory; the reference's memory agrees with it. Both arrays are
  then the same layer of those arguments.
-/
module

public import proofs.«01_k».proof.Proof.Host
public import proofs.«01_k».proof.Proof.RefValue
public import proofs.«01_k».proof.Proof.Plain
public import proofs.«01_k».proof.Proof.Gen.KernelIdeal.Value

@[expose] public section

noncomputable section

namespace Cert.Layer

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments a memory holds. -/
def argsOf : Args where
  x := entry (m (c, Proc.devRef .tc main_arg0))
  wqkv r k := (entry (m (c, Proc.devRef .tc main_arg3)) r k).toReal
  bqkv k := (entry1 (m (c, Proc.devRef .tc main_arg4)) k).toReal
  wproj := entry (m (c, Proc.devRef .tc main_arg5))
  bproj := entry1 (m (c, Proc.devRef .tc main_arg6))
  g1 k := (entry1 (m (c, Proc.devRef .tc main_arg7)) k).toReal
  o1 k := (entry1 (m (c, Proc.devRef .tc main_arg8)) k).toReal
  g2 k := (entry1 (m (c, Proc.devRef .tc main_arg9)) k).toReal
  o2 k := (entry1 (m (c, Proc.devRef .tc main_arg10)) k).toReal
  w1 r k := (entry (m (c, Proc.devRef .tc main_arg11)) r k).toReal
  b1 k := (entry1 (m (c, Proc.devRef .tc main_arg12)) k).toReal
  w2 := entry (m (c, Proc.devRef .tc main_arg13))
  b2 := entry1 (m (c, Proc.devRef .tc main_arg14))

variable {m}

theorem given_argsOf (h : Pre_KernelIdeal_plain_inputs m) : Given m c (argsOf m c) := by
  obtain ⟨-, -, h3, h4, h7, h8, h9, h10, h11, h12⟩ := plain (h c)
  exact {
    x := mat_entry _
    wqkv := mat_real h3
    bqkv := vec_real h4
    wproj := mat_entry _
    bproj := vec_entry _
    g1 := vec_real h7
    o1 := vec_real h8
    g2 := vec_real h9
    o2 := vec_real h10
    w1 := mat_real h11
    b1 := vec_real h12
    w2 := mat_entry _
    b2 := vec_entry _ }

/-- The reference's result of the kernel's arguments is the kernel's. -/
theorem algebraic : algebraic_KernelIdeal_ReferenceIdeal_pre_plain_inputs := by
  intro m g m' g' hpre hagree
  refine ⟨fun c => (dats m 0 c).arrAt 9 cfg0.N, Cert.KernelIdeal.Value.run_blocks m g, ?_⟩
  refine (θ_run Cert.ReferenceIdeal.defs _ _).mono (fun _ h c => ⟨(h c).1.trans ?_, (h c).2⟩)
    (Cert.ReferenceIdeal.Value.run (F := Ideal) m' g')
  have hA := given_argsOf c hpre
  obtain ⟨i1, i2, -⟩ := plain (hpre c)
  obtain ⟨e0, e1, e2, e3, e4, e5, e6, e7, e8, e9, e10, e11, e12, e13, e14⟩ := hagree c
  have hR : Layer.Ref.Given (StableHlo.launchContents m' c) (argsOf m c) := {
    order := fun i => (congrFun e1 (ix1 i)).trans (i1 i)
    inverse := fun i => (congrFun e2 (ix1 i)).trans (i2 i)
    x := e0.trans hA.x
    wqkv := e3.trans hA.wqkv
    bqkv := e4.trans hA.bqkv
    wproj := e5.trans hA.wproj
    bproj := e6.trans hA.bproj
    g1 := e7.trans hA.g1
    o1 := e8.trans hA.o1
    g2 := e9.trans hA.g2
    o2 := e10.trans hA.o2
    w1 := e11.trans hA.w1
    b1 := e12.trans hA.b1
    w2 := e13.trans hA.w2
    b2 := e14.trans hA.b2 }
  exact (Layer.Ref.resultV_eq hR).trans ((congrArg mat (Layer.Ref.layer_fold (argsOf m c) _)).trans (final_fold hA).symm)

end Cert.Layer

end
-- ==== Proof.lean ====
/-
  The claims, put together: the three programs' frames, the naming of the two gelu constants, and the
  equation of the kernel's array with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_plain_inputs
public import proofs.«01_k».proof.Proof.Gen.KernelIdeal.Value
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel, its ideal form and the reference run to the end, keep their arguments and leave every counter at zero. -/
theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_plain_inputs := fun m ρ _ => Cert.KernelIdeal.Gen.frame m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_reference_pre : Cert.quiescent_ReferenceIdeal_pre_plain_inputs := fun m ρ _ => frame_reference m ρ trivial

/-- The two gelu constants the ideal form names have the named values' own bf16 words. -/
theorem preserves : Cert.preserves_Kernel_KernelIdeal :=
  ⟨IdealRules.named_const.statement Cert.KernelIdeal.κ "c2" .bf16 _ _ rfl,
    IdealRules.named_const.statement Cert.KernelIdeal.κ "c1" .bf16 _ _ rfl⟩

theorem claim : Cert.Claim :=
  ⟨Cert.Kernel.Gen.facts, Cert.KernelIdeal.Gen.facts, Cert.ReferenceIdeal.Gen.facts, Cert.Pre_plain_inputs.Gen.facts,
    frame_kernel, frame_ideal, frame_ideal_pre, frame_reference, frame_reference_pre, preserves, Cert.Layer.algebraic⟩

end Cert.Proof

end
